-- ==== Defs.lean ====
def Pre_Kernel [hPre_ids_in_range : Cert.Pre_ids_in_range.Facts] (m : (ℓ : Loc Cert.Kernel.nD Cert.Kernel.τ Cert.Kernel.sig) → Buf (Elt Bits) ℓ) : Prop :=
  ∀ c : Dev Cert.Kernel.nD,
    (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_ids_in_range : Cert.Pre_ids_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_ids_in_range : Cert.Pre_ids_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] [hPre_ids_in_range : Cert.Pre_ids_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_ids_in_range : Cert.Pre_ids_in_range.Facts),
    quiescent_Kernel (hKernel := hKernel) (hPre_ids_in_range := hPre_ids_in_range)
    ∧ quiescent_KernelIdeal (hKernelIdeal := hKernelIdeal) (hPre_ids_in_range := hPre_ids_in_range)
    ∧ quiescent_ReferenceIdeal (hReferenceIdeal := hReferenceIdeal) (hPre_ids_in_range := hPre_ids_in_range)
    ∧ preserves_Kernel_KernelIdeal
    ∧ algebraic_KernelIdeal_ReferenceIdeal (hKernelIdeal := hKernelIdeal) (hReferenceIdeal := hReferenceIdeal) (hPre_ids_in_range := hPre_ids_in_range)
-- ==== Pre_ids_in_range.lean ====
abbrev S4x4096x4096 : Shape := ⟨3, ![4, 4096, 4096]⟩
abbrev S4x1 : Shape := ⟨2, ![4, 1]⟩
abbrev S64x4096 : Shape := ⟨2, ![64, 4096]⟩
abbrev S_ : Shape := ⟨0, ![]⟩

class Facts : Prop where
  bcast_S_S4x1 : S_.BroadcastsInDim S4x1 (![] : Fin 0 → Fin S4x1.rank)
  reducesTo_S4x1_S_d0_1 : S4x1.ReducesTo [0, 1] S_
  h_S_ : 0 < S_.numel

variable [Facts]

def fn {F : FTy → Type} [FloatOps F] (main_arg0 : FVec F S4x4096x4096 .f32) (main_arg1 : IVec S4x1 32) (main_arg2 : FVec F S64x4096 .f32) (main_arg3 : FVec F S64x4096 .f32) : IVec S_ 1 :=
  let main_c : IVec S_ 32 := constantI S_ 32 0#32
  let main_v0 : IVec S4x1 32 := broadcastInDim S4x1 ![] bcast_S_S4x1 main_c
  let main_v1 : IVec S4x1 1 := cmpi .sge main_arg1 main_v0
  let main_c_0 : IVec S_ 32 := constantI S_ 32 64#32
  let main_v2 : IVec S4x1 32 := broadcastInDim S4x1 ![] bcast_S_S4x1 main_c_0
  let main_v3 : IVec S4x1 1 := cmpi .slt main_arg1 main_v2
  let main_v4 : IVec S4x1 1 := andi main_v1 main_v3
  let main_c_1 : IVec S_ 1 := constantI S_ 1 1#1
  let main_v5 : IVec S_ 1 := (fun x v => Host.reduce IntOp.andi x v reducesTo_S4x1_S_d0_1 h_S_) main_v4 main_c_1
  main_v5
-- ==== Kernel.lean ====
abbrev S4x4096x4096 : Shape := ⟨3, ![4, 4096, 4096]⟩
abbrev S4x1 : Shape := ⟨2, ![4, 1]⟩
abbrev S64x4096 : Shape := ⟨2, ![64, 4096]⟩
abbrev S4 : Shape := ⟨1, ![4]⟩
abbrev S1x4 : Shape := ⟨2, ![1, 4]⟩
abbrev S_ : Shape := ⟨0, ![]⟩
abbrev S32 : Shape := ⟨1, ![32]⟩
abbrev S32x1 : Shape := ⟨2, ![32, 1]⟩
abbrev S32x4 : Shape := ⟨2, ![32, 4]⟩
abbrev S1x32x1x4 : Shape := ⟨4, ![1, 32, 1, 4]⟩
abbrev S1x32x2x4 : Shape := ⟨4, ![1, 32, 2, 4]⟩
abbrev S32x8 : Shape := ⟨2, ![32, 8]⟩
abbrev S2048x128 : Shape := ⟨2, ![2048, 128]⟩
abbrev S32x4x128 : Shape := ⟨3, ![32, 4, 128]⟩
abbrev S8 : Shape := ⟨1, ![8]⟩
abbrev S8x128 : Shape := ⟨2, ![8, 128]⟩
abbrev S4x128 : Shape := ⟨2, ![4, 128]⟩
abbrev S1x8 : Shape := ⟨2, ![1, 8]⟩
abbrev S1x16 : Shape := ⟨2, ![1, 16]⟩
abbrev S16 : Shape := ⟨1, ![16]⟩
abbrev S1x4x128 : Shape := ⟨3, ![1, 4, 128]⟩
abbrev S4x32x128 : Shape := ⟨3, ![4, 32, 128]⟩
abbrev S4x1x4096 : Shape := ⟨3, ![4, 1, 4096]⟩
abbrev S1x512x4096 : Shape := ⟨3, ![1, 512, 4096]⟩
abbrev S1x1x4096 : Shape := ⟨3, ![1, 1, 4096]⟩

abbrev nBuf : Table → Nat
  | .hbm => 26
  | .local .tc .vmem => 8
  | .local .scVector .vmem => 5
  | _ => 0

abbrev bufTy : (tb : Table) → Fin (nBuf tb) → BufTy
  | .hbm, ⟨0, _⟩ => ⟨S4x4096x4096, .f32⟩
  | .hbm, ⟨1, _⟩ => ⟨S4x1, .i32⟩
  | .hbm, ⟨2, _⟩ => ⟨S64x4096, .f32⟩
  | .hbm, ⟨3, _⟩ => ⟨S64x4096, .f32⟩
  | .hbm, ⟨4, _⟩ => ⟨S4, .i32⟩
  | .hbm, ⟨5, _⟩ => ⟨S1x4, .i32⟩
  | .hbm, ⟨6, _⟩ => ⟨S_, .i32⟩
  | .hbm, ⟨7, _⟩ => ⟨S1x4, .i32⟩
  | .hbm, ⟨8, _⟩ => ⟨S1x4, .i32⟩
  | .hbm, ⟨9, _⟩ => ⟨S32, .i32⟩
  | .hbm, ⟨10, _⟩ => ⟨S32x1, .i32⟩
  | .hbm, ⟨11, _⟩ => ⟨S32x4, .i32⟩
  | .hbm, ⟨12, _⟩ => ⟨S32x4, .i32⟩
  | .hbm, ⟨13, _⟩ => ⟨S32x4, .i32⟩
  | .hbm, ⟨14, _⟩ => ⟨S1x32x1x4, .i32⟩
  | .hbm, ⟨15, _⟩ => ⟨S1x32x2x4, .i32⟩
  | .hbm, ⟨16, _⟩ => ⟨S32x8, .i32⟩
  | .hbm, ⟨17, _⟩ => ⟨S2048x128, .f32⟩
  | .hbm, ⟨18, _⟩ => ⟨S2048x128, .f32⟩
  | .hbm, ⟨19, _⟩ => ⟨S32x4x128, .f32⟩
  | .hbm, ⟨20, _⟩ => ⟨S32x4x128, .f32⟩
  | .hbm, ⟨21, _⟩ => ⟨S4x32x128, .f32⟩
  | .hbm, ⟨22, _⟩ => ⟨S4x1x4096, .f32⟩
  | .hbm, ⟨23, _⟩ => ⟨S4x32x128, .f32⟩
  | .hbm, ⟨24, _⟩ => ⟨S4x1x4096, .f32⟩
  | .hbm, ⟨25, _⟩ => ⟨S4x4096x4096, .f32⟩
  | .local .tc .vmem, ⟨0, _⟩ => ⟨S1x512x4096, .f32⟩
  | .local .tc .vmem, ⟨1, _⟩ => ⟨S1x512x4096, .f32⟩
  | .local .tc .vmem, ⟨2, _⟩ => ⟨S1x1x4096, .f32⟩
  | .local .tc .vmem, ⟨3, _⟩ => ⟨S1x1x4096, .f32⟩
  | .local .tc .vmem, ⟨4, _⟩ => ⟨S1x1x4096, .f32⟩
  | .local .tc .vmem, ⟨5, _⟩ => ⟨S1x1x4096, .f32⟩
  | .local .tc .vmem, ⟨6, _⟩ => ⟨S1x512x4096, .f32⟩
  | .local .tc .vmem, ⟨7, _⟩ => ⟨S1x512x4096, .f32⟩
  | .local .scVector .vmem, ⟨0, _⟩ => ⟨S8, .i32⟩
  | .local .scVector .vmem, ⟨1, _⟩ => ⟨S8x128, .f32⟩
  | .local .scVector .vmem, ⟨2, _⟩ => ⟨S8x128, .f32⟩
  | .local .scVector .vmem, ⟨3, _⟩ => ⟨S4x128, .f32⟩
  | .local .scVector .vmem, ⟨4, _⟩ => ⟨S4x128, .f32⟩
  | _, _ => ⟨S4x4096x4096, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14_0 : Ref sig .tc := ⟨.hbm, 19, rfl⟩
abbrev main_v14_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v11_scv : Ref sig .scVector := ⟨.hbm, 16, rfl⟩
abbrev main_v12_scv : Ref sig .scVector := ⟨.hbm, 17, rfl⟩
abbrev main_v13_scv : Ref sig .scVector := ⟨.hbm, 18, rfl⟩
abbrev main_v14_0_scv : Ref sig .scVector := ⟨.hbm, 19, rfl⟩
abbrev main_v14_1_scv : Ref sig .scVector := ⟨.hbm, 20, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_348_r0 : BitVec 32 := 0#32
  ![v1.toNat, 0]
def k0_off2 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_348_r1 : BitVec 32 := 0#32
  let c0_i32_349_r1 : BitVec 32 := 0#32
  ![v1.toNat, 0, 0]
abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x4096x4096 : Shape := ⟨3, ![4, 4096, 4096]⟩
abbrev S4x1 : Shape := ⟨2, ![4, 1]⟩
abbrev S64x4096 : Shape := ⟨2, ![64, 4096]⟩
abbrev S4 : Shape := ⟨1, ![4]⟩
abbrev S_ : Shape := ⟨0, ![]⟩
abbrev S1 : Shape := ⟨1, ![1]⟩
abbrev S1x1 : Shape := ⟨2, ![1, 1]⟩
abbrev S4x4096 : Shape := ⟨2, ![4, 4096]⟩
abbrev S4x1x4096 : Shape := ⟨3, ![4, 1, 4096]⟩

abbrev nBuf : Space → Nat
  | .hbm => 61
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4x1, .i32⟩
  | .hbm, ⟨2, _⟩ => ⟨S64x4096, .f32⟩
  | .hbm, ⟨3, _⟩ => ⟨S64x4096, .f32⟩
  | .hbm, ⟨4, _⟩ => ⟨S4, .i32⟩
  | .hbm, ⟨5, _⟩ => ⟨S_, .i32⟩
  | .hbm, ⟨6, _⟩ => ⟨S4, .i32⟩
  | .hbm, ⟨7, _⟩ => ⟨S4, .i1⟩
  | .hbm, ⟨8, _⟩ => ⟨S_, .i32⟩
  | .hbm, ⟨9, _⟩ => ⟨S4, .i32⟩
  | .hbm, ⟨10, _⟩ => ⟨S4, .i32⟩
  | .hbm, ⟨11, _⟩ => ⟨S4, .i32⟩
  | .hbm, ⟨12, _⟩ => ⟨S4x1, .i32⟩
  | .hbm, ⟨13, _⟩ => ⟨S1, .i32⟩
  | .hbm, ⟨14, _⟩ => ⟨S_, .i32⟩
  | .hbm, ⟨15, _⟩ => ⟨S4x1, .i32⟩
  | .hbm, ⟨16, _⟩ => ⟨S4x1, .i1⟩
  | .hbm, ⟨17, _⟩ => ⟨S1x1, .i32⟩
  | .hbm, ⟨18, _⟩ => ⟨S4x1, .i32⟩
  | .hbm, ⟨19, _⟩ => ⟨S4x1, .i1⟩
  | .hbm, ⟨20, _⟩ => ⟨S4x1, .i1⟩
  | .hbm, ⟨21, _⟩ => ⟨S_, .i1⟩
  | .hbm, ⟨22, _⟩ => ⟨S4, .i1⟩
  | .hbm, ⟨23, _⟩ => ⟨S4x4096, .f32⟩
  | .hbm, ⟨24, _⟩ => ⟨S4x4096, .i1⟩
  | .hbm, ⟨25, _⟩ => ⟨S_, .f32⟩
  | .hbm, ⟨26, _⟩ => ⟨S4x4096, .f32⟩
  | .hbm, ⟨27, _⟩ => ⟨S4x4096, .f32⟩
  | .hbm, ⟨28, _⟩ => ⟨S_, .i32⟩
  | .hbm, ⟨29, _⟩ => ⟨S4, .i32⟩
  | .hbm, ⟨30, _⟩ => ⟨S4, .i1⟩
  | .hbm, ⟨31, _⟩ => ⟨S_, .i32⟩
  | .hbm, ⟨32, _⟩ => ⟨S4, .i32⟩
  | .hbm, ⟨33, _⟩ => ⟨S4, .i32⟩
  | .hbm, ⟨34, _⟩ => ⟨S4, .i32⟩
  | .hbm, ⟨35, _⟩ => ⟨S4x1, .i32⟩
  | .hbm, ⟨36, _⟩ => ⟨S1, .i32⟩
  | .hbm, ⟨37, _⟩ => ⟨S_, .i32⟩
  | .hbm, ⟨38, _⟩ => ⟨S4x1, .i32⟩
  | .hbm, ⟨39, _⟩ => ⟨S4x1, .i1⟩
  | .hbm, ⟨40, _⟩ => ⟨S1x1, .i32⟩
  | .hbm, ⟨41, _⟩ => ⟨S4x1, .i32⟩
  | .hbm, ⟨42, _⟩ => ⟨S4x1, .i1⟩
  | .hbm, ⟨43, _⟩ => ⟨S4x1, .i1⟩
  | .hbm, ⟨44, _⟩ => ⟨S_, .i1⟩
  | .hbm, ⟨45, _⟩ => ⟨S4, .i1⟩
  | .hbm, ⟨46, _⟩ => ⟨S4x4096, .f32⟩
  | .hbm, ⟨47, _⟩ => ⟨S4x4096, .i1⟩
  | .hbm, ⟨48, _⟩ => ⟨S_, .f32⟩
  | .hbm, ⟨49, _⟩ => ⟨S4x4096, .f32⟩
  | .hbm, ⟨50, _⟩ => ⟨S4x4096, .f32⟩
  | .hbm, ⟨51, _⟩ => ⟨S4x4096, .f32⟩
  | .hbm, ⟨52, _⟩ => ⟨S4x1x4096, .f32⟩
  | .hbm, ⟨53, _⟩ => ⟨S4x1x4096, .f32⟩
  | .hbm, ⟨54, _⟩ => ⟨S4x4096x4096, .f32⟩
  | .hbm, ⟨55, _⟩ => ⟨S4x4096x4096, .f32⟩
  | .hbm, ⟨56, _⟩ => ⟨S_, .f32⟩
  | .hbm, ⟨57, _⟩ => ⟨S4x1x4096, .f32⟩
  | .hbm, ⟨58, _⟩ => ⟨S4x1x4096, .f32⟩
  | .hbm, ⟨59, _⟩ => ⟨S4x4096x4096, .f32⟩
  | .hbm, ⟨60, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v1 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_cst : Ref sig .tc := ⟨.hbm, 48, rfl⟩
abbrev main_call1_v15 : Ref sig .tc := ⟨.hbm, 49, rfl⟩
abbrev main_v2 : Ref sig .tc := ⟨.hbm, 50, rfl⟩
abbrev main_v3 : Ref sig .tc := ⟨.hbm, 51, rfl⟩
abbrev main_v4 : Ref sig .tc := ⟨.hbm, 52, rfl⟩
abbrev main_v5 : Ref sig .tc := ⟨.hbm, 53, rfl⟩
abbrev main_v6 : Ref sig .tc := ⟨.hbm, 54, rfl⟩
abbrev main_v7 : Ref sig .tc := ⟨.hbm, 55, rfl⟩
abbrev main_cst : Ref sig .tc := ⟨.hbm, 56, rfl⟩
abbrev main_v8 : Ref sig .tc := ⟨.hbm, 57, rfl⟩
abbrev main_v9 : Ref sig .tc := ⟨.hbm, 58, rfl⟩
abbrev main_v10 : Ref sig .tc := ⟨.hbm, 59, rfl⟩
abbrev main_v11 : Ref sig .tc := ⟨.hbm, 60, rfl⟩

abbrev nD : Nat := 1
abbrev τ : Topo := Topo.v7x

variable {F : FTy → Type} [FloatOps F]
-- ==== Proof.Base.lean ====
/-
  The kernel's program as the launch theorem takes it: its SparseCore configuration, its body tables, the resource
  algebra (the launch's handshakes, the pipeline's staging cells, the transfers' counters).
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Modulate

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := UR sig nD τ
abbrev UU : Type := UH × (UP × Counters)

local notation "𝕄" => MT nD τ sig (HIx 1) (Elt F) ℕ UU ℕ

abbrev EH : Emb UH (MT nD τ sig (HIx 1) (Elt F) ℕ UU ℕ) := embL
/-- The pipeline's staging cells live in the left of the right component. -/
abbrev EP : Emb UP (MT nD τ sig (HIx 1) (Elt F) ℕ UU ℕ) := (Emb.inl : Emb UP (UP × Counters)).trans embR

end Cert.Proof.Modulate

end
-- ==== Proof.Views.lean ====
/-
  The SparseCore task's buffers: the rows of the index list and of the two result arrays that task `(c, s)` — SparseCore
  `c`, vector subcore `s` — works on (row `2 s + c`), its scratch buffers and its semaphore cells.
-/
module

public import proofs.«01_k».proof.Proof.Base

@[expose] public section

noncomputable section

namespace Cert.Proof.Modulate

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs mem_ownRefs_of_owner)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-- The index list, the mean table, the deviation table, the scale array and the offset array of device `d`. -/
abbrev iLoc (d : Dev nD) : Loc nD τ sig := (SparseCore.T d).loc main_v11
abbrev mLoc (d : Dev nD) : Loc nD τ sig := (SparseCore.T d).loc main_v12
abbrev sLoc (d : Dev nD) : Loc nD τ sig := (SparseCore.T d).loc main_v13
abbrev aLoc (d : Dev nD) : Loc nD τ sig := (SparseCore.T d).loc main_v14_0
abbrev bLoc (d : Dev nD) : Loc nD τ sig := (SparseCore.T d).loc main_v14_1

abbrev iV : Memref sig .scVector .hbm S32x8 .i32 := Memref.whole main_v11_scv
abbrev mV : Memref sig .scVector .hbm S2048x128 .f32 := Memref.whole main_v12_scv
abbrev sV : Memref sig .scVector .hbm S2048x128 .f32 := Memref.whole main_v13_scv
abbrev aV : Memref sig .scVector .hbm S32x4x128 .f32 := Memref.whole main_v14_0_scv
abbrev bV : Memref sig .scVector .hbm S32x4x128 .f32 := Memref.whole main_v14_1_scv
abbrev x0 : Memref sig .scVector .vmem S8 .i32 := Memref.whole cc0_scratch0
abbrev x1 : Memref sig .scVector .vmem S8x128 .f32 := Memref.whole cc0_scratch1
abbrev x2 : Memref sig .scVector .vmem S8x128 .f32 := Memref.whole cc0_scratch2
abbrev x3 : Memref sig .scVector .vmem S4x128 .f32 := Memref.whole cc0_scratch3
abbrev x4 : Memref sig .scVector .vmem S4x128 .f32 := Memref.whole cc0_scratch4

theorem idiv : 32 ∣ S32x8.size 0 := ⟨1, rfl⟩
theorem odiv : 32 ∣ S32x4x128.size 0 := ⟨1, rfl⟩
/-- Row `w` of the index list, and of a result array. -/
abbrev irow (w : Fin 32) : Rect S32x8 := Rect.part (s := S32x8) (a₀ := 0) idiv w
abbrev orow (w : Fin 32) : Rect S32x4x128 := Rect.part (s := S32x4x128) (a₀ := 0) odiv w
abbrev iSet (w : Fin 32) : Finset S32x8.Idx := (iV.view.slice (irow w)).set
abbrev aSet (w : Fin 32) : Finset S32x4x128.Idx := (aV.view.slice (orow w)).set
abbrev bSet (w : Fin 32) : Finset S32x4x128.Idx := (bV.view.slice (orow w)).set

/-- Task `w`'s share of a table: one of thirty-two pieces of the whole. -/
abbrev tq (w : Fin 32) : PosShare TreeShare := pieceOf fullShare 32 (by decide) w

section Task

variable (L : grid0.Coords)

abbrev cL (L : grid0.Coords) : Fin τ.nSC := (L 0).castLE hcore0
abbrev jL (L : grid0.Coords) : Fin τ.nSub := (L 1).castLE hsub0
abbrev thr (d : Dev nD) (L : grid0.Coords) : Thread nD τ := V d (cL L) (jL L)
theorem b0 : grid0.bound 0 = 2 := rfl
theorem b1 : grid0.bound 1 = 16 := rfl
/-- The row the task at `L` works on. -/
def wid (L : grid0.Coords) : Fin 32 := ⟨2 * (L 1).val + (L 0).val, by
  have h0 : (L 0).val < 2 := (L 0).isLt
  have h1 : (L 1).val < 16 := (L 1).isLt
  omega⟩

abbrev irowK (L : grid0.Coords) : Rect S32x8 := Rect.unit (s := S32x8) (k0_off1 L) S1x8.size (k0_off1_inb L)
abbrev orowK (L : grid0.Coords) : Rect S32x4x128 := Rect.unit (s := S32x4x128) (k0_off2 L) S1x4x128.size (k0_off2_inb L)
abbrev iRowK (L : grid0.Coords) : Memref sig .scVector .hbm S8 .i32 := (iV.slice (irowK L) (fun _ => rfl)).squeeze S8 squeezes_S1x8_S8
abbrev aRowK (L : grid0.Coords) : Memref sig .scVector .hbm S4x128 .f32 := (aV.slice (orowK L) (fun _ => rfl)).squeeze S4x128 squeezes_S1x4x128_S4x128
abbrev bRowK (L : grid0.Coords) : Memref sig .scVector .hbm S4x128 .f32 := (bV.slice (orowK L) (fun _ => rfl)).squeeze S4x128 squeezes_S1x4x128_S4x128
/-- A table as the gather addresses it: all of it. -/
abbrev mAll : Memref sig .scVector .hbm S2048x128 .f32 := mV.slice (Rect.unit (s := S2048x128) ![0, 0] S2048x128.size inb_S2048x128_S2048x128_0_0) (fun _ => rfl)
abbrev sAll : Memref sig .scVector .hbm S2048x128 .f32 := sV.slice (Rect.unit (s := S2048x128) ![0, 0] S2048x128.size inb_S2048x128_S2048x128_0_0) (fun _ => rfl)

theorem irowK_eq : irowK L = irow (wid L) := by
  unfold irowK irow Rect.part Rect.block wid
  congr 1 <;> funext a
  · rw [k0_off1_eq]
    fin_cases a <;> simp [Shape.partIx, Shape.partSize]
  · fin_cases a <;> simp [Shape.partSize]
theorem orowK_eq : orowK L = orow (wid L) := by
  unfold orowK orow Rect.part Rect.block wid
  congr 1 <;> funext a
  · rw [k0_off2_eq]
    fin_cases a <;> simp [Shape.partIx, Shape.partSize]
  · fin_cases a <;> simp [Shape.partSize]

theorem set_iRowK : (iRowK L).view.set = iSet (wid L) := by
  show ((iV.view.slice (irowK L)).reshape S8 squeezes_S1x8_S8.numel_eq).set = _
  rw [View.set_reshape]
  exact congrArg (β := Finset S32x8.Idx) (fun r => (iV.view.slice r).set) (irowK_eq L)
theorem set_aRowK : (aRowK L).view.set = aSet (wid L) := by
  show ((aV.view.slice (orowK L)).reshape S4x128 squeezes_S1x4x128_S4x128.numel_eq).set = _
  rw [View.set_reshape]
  exact congrArg (β := Finset S32x4x128.Idx) (fun r => (aV.view.slice r).set) (orowK_eq L)
theorem set_bRowK : (bRowK L).view.set = bSet (wid L) := by
  show ((bV.view.slice (orowK L)).reshape S4x128 squeezes_S1x4x128_S4x128.numel_eq).set = _
  rw [View.set_reshape]
  exact congrArg (β := Finset S32x4x128.Idx) (fun r => (bV.view.slice r).set) (orowK_eq L)

variable (d : Dev nD)

theorem pts_iRowK (f : Buf (Elt F) (iLoc d)) :
    ((iRowK L).view.loc (thr d L) ↦[(iRowK L).view.set]{fullShare} f : sProp 𝕄) = iLoc d ↦[iSet (wid L)]{fullShare} f := by
  rw [set_iRowK]
theorem pts_aRowK (f : Buf (Elt F) (aLoc d)) :
    ((aRowK L).view.loc (thr d L) ↦[(aRowK L).view.set]{fullShare} f : sProp 𝕄) = aLoc d ↦[aSet (wid L)]{fullShare} f := by
  rw [set_aRowK]
theorem pts_bRowK (f : Buf (Elt F) (bLoc d)) :
    ((bRowK L).view.loc (thr d L) ↦[(bRowK L).view.set]{fullShare} f : sProp 𝕄) = bLoc d ↦[bSet (wid L)]{fullShare} f := by
  rw [set_bRowK]

/-! ## The subcore's own semaphores and buffers -/

abbrev sc5 (d : Dev nD) (L : grid0.Coords) : GSem nD τ sig := (thr d L, .dma cc0_scratch5.sem)
abbrev sc6 (d : Dev nD) (L : grid0.Coords) : GSem nD τ sig := (thr d L, .dma cc0_scratch6.sem)
abbrev cl0 (d : Dev nD) (L : grid0.Coords) : GSem nD τ sig := (thr d L, .dma cc0_scoped0.sem)
abbrev cl1 (d : Dev nD) (L : grid0.Coords) : GSem nD τ sig := (thr d L, .dma cc0_scoped1.sem)
abbrev cl2 (d : Dev nD) (L : grid0.Coords) : GSem nD τ sig := (thr d L, .dma cc0_scoped2.sem)

/-- The five cells of the task, at zero, and the subcore's other cells. -/
theorem ownSems0_V :
    (ownSems0 (thr d L) : sProp 𝕄)
      = iprop(semVal (sc5 d L) 0 ∗ semVal (sc6 d L) 0 ∗ semVal (cl0 d L) 0 ∗ semVal (cl1 d L) 0 ∗ semVal (cl2 d L) 0
          ∗ bigSep ((((((ownCells (thr d L)).erase (sc5 d L)).erase (sc6 d L)).erase (cl0 d L)).erase (cl1 d L)).erase (cl2 d L)) fun g => semVal g 0) := by
  have own (g : SemLoc sig) (h : g.isScoped .scVector = true) : ((thr d L, g) : GSem nD τ sig) ∈ ownCells (thr d L) := mem_ownCells.mpr ⟨rfl, h⟩
  have ne {g g' : SemLoc sig} (h : g ≠ g') : ((thr d L, g) : GSem nD τ sig) ≠ (thr d L, g') := fun e => h (congrArg Prod.snd e)
  unfold SparseCore.Cfg.ownSems0
  rw [SparseCore.bigSep_erase' (own (.dma cc0_scratch5.sem) (by decide)),
    SparseCore.bigSep_erase' (Finset.mem_erase.mpr ⟨ne (by decide), own (.dma cc0_scratch6.sem) (by decide)⟩),
    SparseCore.bigSep_erase' (Finset.mem_erase.mpr ⟨ne (by decide), Finset.mem_erase.mpr ⟨ne (by decide), own (.dma cc0_scoped0.sem) (by decide)⟩⟩),
    SparseCore.bigSep_erase' (Finset.mem_erase.mpr ⟨ne (by decide), Finset.mem_erase.mpr ⟨ne (by decide), Finset.mem_erase.mpr ⟨ne (by decide),
      own (.dma cc0_scoped1.sem) (by decide)⟩⟩⟩),
    SparseCore.bigSep_erase' (Finset.mem_erase.mpr ⟨ne (by decide), Finset.mem_erase.mpr ⟨ne (by decide), Finset.mem_erase.mpr ⟨ne (by decide),
      Finset.mem_erase.mpr ⟨ne (by decide), own (.dma cc0_scoped2.sem) (by decide)⟩⟩⟩⟩)]

/-- The subcore's buffers but the five scratch buffers of the task. -/
abbrev otherBufs (L : grid0.Coords) : Finset (DevRef τ sig) :=
  (((((ownRefs (τ := τ) (.scVector (cL L) (jL L))).erase ((Proc.scVector (cL L) (jL L)).devRef cc0_scratch0)).erase
    ((Proc.scVector (cL L) (jL L)).devRef cc0_scratch1)).erase ((Proc.scVector (cL L) (jL L)).devRef cc0_scratch2)).erase
    ((Proc.scVector (cL L) (jL L)).devRef cc0_scratch3)).erase ((Proc.scVector (cL L) (jL L)).devRef cc0_scratch4)

theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ (∃ f, (thr d L).loc cc0_scratch4 ↦{fullShare} f)
          ∗ bigSep (otherBufs L) fun b => iprop(∃ f, ((d, b) : Loc nD τ sig) ↦{fullShare} f)) := by
  have own (b : Ref sig .scVector) (h : ((Proc.scVector (cL L) (jL L)).devRef b).owner = .proc (.scVector (cL L) (jL L))) :
      (Proc.scVector (cL L) (jL L)).devRef b ∈ ownRefs (τ := τ) (.scVector (cL L) (jL L)) := mem_ownRefs_of_owner h
  have ne {b b' : Ref sig .scVector} (h : b ≠ b') : (Proc.scVector (cL L) (jL L)).devRef b ≠ (Proc.scVector (cL L) (jL L)).devRef b' :=
    fun e => h (Proc.devRef_injective _ e)
  unfold SparseCore.Cfg.ownBufs
  refine (SparseCore.bigSep_erase' (own cc0_scratch0 rfl)).trans ?_
  rw [SparseCore.bigSep_erase' (Finset.mem_erase.mpr ⟨ne (by decide), own cc0_scratch1 rfl⟩),
    SparseCore.bigSep_erase' (Finset.mem_erase.mpr ⟨ne (by decide), Finset.mem_erase.mpr ⟨ne (by decide), own cc0_scratch2 rfl⟩⟩),
    SparseCore.bigSep_erase' (Finset.mem_erase.mpr ⟨ne (by decide), Finset.mem_erase.mpr ⟨ne (by decide), Finset.mem_erase.mpr ⟨ne (by decide), own cc0_scratch3 rfl⟩⟩⟩),
    SparseCore.bigSep_erase' (Finset.mem_erase.mpr ⟨ne (by decide), Finset.mem_erase.mpr ⟨ne (by decide), Finset.mem_erase.mpr ⟨ne (by decide),
      Finset.mem_erase.mpr ⟨ne (by decide), own cc0_scratch4 rfl⟩⟩⟩⟩)]

end Task

end Cert.Proof.Modulate

end
-- ==== Proof.Values.lean ====
/-
  What the SparseCore task writes, told element by element: the two rows of a result array are functions of the table
  rows the task gathered.
-/
module

public import proofs.«01_k».proof.Proof.Views
public import Idealize.ShloMosaic.Lib.Pointwise.Index
public import Idealize.ShloMosaic.Lib.ViewIndex

@[expose] public section

noncomputable section

namespace Cert.Proof.Modulate

open Cert.KernelIdeal Cert.KernelIdeal.Gen
open Idealize.ShloMosaic

variable {F : FTy → Type} [FloatOps F]

/-- The reciprocal of a deviation: one over the exponential of the stored logarithm and the small constant. -/
def scl (s : F .f32) : F .f32 :=
  FloatOps.divf (Scalar.ofBits .f32 0x3F800000#32) (FloatOps.addf (FloatOps.exp s) (Scalar.ofBits .f32 0x3A83126F#32))

/-- The offset: minus the mean, over the deviation. -/
def off (m s : F .f32) : F .f32 :=
  FloatOps.mulf (FloatOps.subf (Scalar.ofBits .f32 0#32) m) (scl s)

/-- The place of a gathered row's element: the first four of the eight gathered rows are the task's. -/
def up (y : S4x128.Idx) : S8x128.Idx := ix2 (n0 := 8) (n1 := 128) ⟨(y 0).val, (y 0).isLt.trans (by decide)⟩ (y 1)

theorem scale_ops (v : Vec F S1x16 .f32) (x : S1x16.Idx) :
    shapeCast S1x16 (divf (broadcast S16 (Scalar.ofBits .f32 0x3F800000#32)) (addf (exp (shapeCast S16 v shapeCasts_S1x16_S16))
      (broadcast S16 (Scalar.ofBits .f32 0x3A83126F#32)))) shapeCasts_S16_S1x16 x = scl (v x) := by
  show scl (v (Shape.reshapeEquiv _ (Shape.reshapeEquiv _ x))) = _
  rw [Shape.reshapeEquiv_reshapeEquiv, Shape.reshapeEquiv_self]

theorem off_ops (v w : Vec F S1x16 .f32) (x : S1x16.Idx) :
    shapeCast S1x16 (mulf (subf (broadcast S16 (Scalar.ofBits .f32 0#32)) (shapeCast S16 w shapeCasts_S1x16_S16))
      (divf (broadcast S16 (Scalar.ofBits .f32 0x3F800000#32)) (addf (exp (shapeCast S16 v shapeCasts_S1x16_S16))
      (broadcast S16 (Scalar.ofBits .f32 0x3A83126F#32))))) shapeCasts_S16_S1x16 x = off (w x) (v x) := by
  show off (w (Shape.reshapeEquiv _ (Shape.reshapeEquiv _ x))) (v (Shape.reshapeEquiv _ (Shape.reshapeEquiv _ x))) = _
  rw [Shape.reshapeEquiv_reshapeEquiv, Shape.reshapeEquiv_self]

omit [FloatOps F] in
/-- A load of sixteen lanes of gathered row `o 0` reads what the same sixteen lanes of a result row hold. -/
theorem load_at (g : S8x128.Idx → Elt F .f32) (o : Fin 2 → ℕ)
    (h8 : ∀ a, o a + S1x16.size a ≤ S8x128.size a) (h4 : ∀ a, o a + S1x16.size a ≤ S4x128.size a) (x : S1x16.Idx) :
    g ((Rect.unit (s := S8x128) o S1x16.size h8).emb x) = g (up ((Rect.unit (s := S4x128) o S1x16.size h4).emb x)) := by
  congr 1
  funext a
  fin_cases a <;> exact Fin.ext rfl

theorem scale_piece (gS : S8x128.Idx → Elt F .f32) (o : Fin 2 → ℕ)
    (h8 : ∀ a, o a + S1x16.size a ≤ S8x128.size a) (h4 : ∀ a, o a + S1x16.size a ≤ S4x128.size a) (x : S1x16.Idx) :
    shapeCast S1x16 (divf (broadcast S16 (Scalar.ofBits .f32 0x3F800000#32)) (addf (exp (shapeCast S16
        (View.readAt (Elt F) x2.view (Rect.unit (s := S8x128) o S1x16.size h8).toLoadRect gS) shapeCasts_S1x16_S16))
      (broadcast S16 (Scalar.ofBits .f32 0x3A83126F#32)))) shapeCasts_S16_S1x16 x
      = scl (gS (up ((Rect.unit (s := S4x128) o S1x16.size h4).emb x))) := by
  refine (scale_ops _ x).trans ?_
  rw [← load_at gS o h8 h4 x]; rfl

theorem off_piece (gM gS : S8x128.Idx → Elt F .f32) (o : Fin 2 → ℕ)
    (h8 : ∀ a, o a + S1x16.size a ≤ S8x128.size a) (h4 : ∀ a, o a + S1x16.size a ≤ S4x128.size a) (x : S1x16.Idx) :
    shapeCast S1x16 (mulf (subf (broadcast S16 (Scalar.ofBits .f32 0#32)) (shapeCast S16
        (View.readAt (Elt F) x1.view (Rect.unit (s := S8x128) o S1x16.size h8).toLoadRect gM) shapeCasts_S1x16_S16))
      (divf (broadcast S16 (Scalar.ofBits .f32 0x3F800000#32)) (addf (exp (shapeCast S16
        (View.readAt (Elt F) x2.view (Rect.unit (s := S8x128) o S1x16.size h8).toLoadRect gS) shapeCasts_S1x16_S16))
      (broadcast S16 (Scalar.ofBits .f32 0x3A83126F#32))))) shapeCasts_S16_S1x16 x
      = off (gM (up ((Rect.unit (s := S4x128) o S1x16.size h4).emb x))) (gS (up ((Rect.unit (s := S4x128) o S1x16.size h4).emb x))) := by
  refine (off_ops _ _ x).trans ?_
  rw [← load_at gS o h8 h4 x, ← load_at gM o h8 h4 x]; rfl

variable (d : Dev nD) (L : grid0.Coords)
variable (fI : Buf (Elt F) (iLoc d)) (fM : Buf (Elt F) (mLoc d)) (fS : Buf (Elt F) (sLoc d))

/-- Every word of the index list names a row of the tables. -/
def InRows (fI : Buf (Elt F) (iLoc d)) : Prop := ∀ j : S32x8.Idx, (fI j : BitVec 32).toNat < 2048

/-- The list the task reads its rows from: row `wid L` of the index list. -/
abbrev listOf : S8.Idx → Elt F .i32 := (iRowK L).view.read (Elt F) fI

omit [FloatOps F] in
theorem listOf_lt (h : InRows d fI) (j : S8.Idx) : ((listOf d L fI j : BitVec 32)).toNat < 2048 := by
  have e : listOf d L fI j = fI ((iRowK L).view.emb j) := (View.read_apply _ _).trans (cast_eq _ _)
  rw [e]; exact h _

omit [FloatOps F] in
theorem inb_list (h : InRows d fI) :
    ∀ x, (x0.view.read (Elt F) (listOf d L fI) x).toNat < S2048x128.size gathers_S2048x128_S8x128.axis :=
  fun x => listOf_lt d L fI h x

/-- A table's rows the task gathers. -/
abbrev rowsOf (h : InRows d fI) (tbl : S2048x128.Idx → Elt F .f32) : S8x128.Idx → Elt F .f32 :=
  SparseCore.gatherPayload gathers_S2048x128_S8x128 tbl (SparseCore.rows (x0.view.read (Elt F) (listOf d L fI)) rfl (inb_list d L fI h))

/-! ## Where the task's rows lie -/

theorem emb_iRowK (j : S8.Idx) : (iRowK L).view.emb j = (ix2 (n0 := 32) (n1 := 8) (wid L) (j 0) : S32x8.Idx) := by
  show (irowK L).emb (Shape.reshapeEquiv _ j) = _
  rw [Shape.reshapeEquiv_cons_one (d := ![8])]
  funext a
  have e := k0_off1_eq L
  fin_cases a
  · refine Fin.ext ?_
    show k0_off1 L 0 + 1 * 0 = _
    rw [e]; rfl
  · refine Fin.ext ?_
    show k0_off1 L 1 + 1 * (j 0).val = _
    rw [e]
    show 0 + 1 * (j 0).val = (j 0).val
    omega

theorem emb_aRowK (y : S4x128.Idx) : (aRowK L).view.emb y = (ix3 (n0 := 32) (n1 := 4) (n2 := 128) (wid L) (y 0) (y 1) : S32x4x128.Idx) := by
  show (orowK L).emb (Shape.reshapeEquiv _ y) = _
  rw [Shape.reshapeEquiv_cons_one (d := ![4, 128])]
  funext a
  have e := k0_off2_eq L
  fin_cases a
  · refine Fin.ext ?_
    show k0_off2 L 0 + 1 * 0 = _
    rw [e]; rfl
  · refine Fin.ext ?_
    show k0_off2 L 1 + 1 * (y 0).val = _
    rw [e]
    show 0 + 1 * (y 0).val = (y 0).val
    omega
  · refine Fin.ext ?_
    show k0_off2 L 2 + 1 * (y 1).val = _
    rw [e]
    show 0 + 1 * (y 1).val = (y 1).val
    omega

/-- The table row the list names for output row `b` of task `w`. -/
def tblRow (fI : S32x8.Idx → BitVec 32) (w : Fin 32) (b : Fin 4) : Fin 2048 :=
  ⟨(fI (ix2 w ⟨b.val, b.isLt.trans (by decide)⟩)).toNat % 2048, Nat.mod_lt _ (by decide)⟩

/-- The scale array and the offset array, as the index list and the two tables determine them. -/
def scaleArr (fI : S32x8.Idx → BitVec 32) (fS : S2048x128.Idx → F .f32) : S32x4x128.Idx → F .f32 :=
  fun j => scl (fS (ix2 (tblRow fI (j 0) (j 1)) (j 2)))
def offArr (fI : S32x8.Idx → BitVec 32) (fM fS : S2048x128.Idx → F .f32) : S32x4x128.Idx → F .f32 :=
  fun j => off (fM (ix2 (tblRow fI (j 0) (j 1)) (j 2))) (fS (ix2 (tblRow fI (j 0) (j 1)) (j 2)))

omit [FloatOps F] in
theorem rowsOf_up (h : InRows d fI) (tbl : S2048x128.Idx → Elt F .f32) (y : S4x128.Idx) :
    rowsOf d L fI h tbl (up y) = tbl (ix2 (tblRow fI (wid L) (y 0)) (y 1)) := by
  unfold rowsOf SparseCore.gatherPayload
  congr 1
  funext a
  have hk (k : Fin 8) : S8.rowMajor.symm (k.cast rfl) = ix1 k := by
    rw [Equiv.symm_apply_eq]; refine Fin.ext ?_
    rw [Shape.rowMajor_val_one]; rfl
  fin_cases a
  · refine Fin.ext ?_
    refine (congrArg Fin.val (Shape.Gathers.idx_axis gathers_S2048x128_S8x128 _ (up y))).trans ?_
    show (listOf d L fI (S8.rowMajor.symm (Fin.cast rfl (⟨(y 0).val, _⟩ : Fin 8))) : BitVec 32).toNat = _
    rw [hk]
    have e : listOf d L fI (ix1 (⟨(y 0).val, (y 0).isLt.trans (by decide)⟩ : Fin 8)) = fI ((iRowK L).view.emb _) :=
      (View.read_apply _ _).trans (cast_eq _ _)
    rw [e, emb_iRowK]
    exact (Nat.mod_eq_of_lt (h _)).symm
  · refine Fin.ext ?_
    exact Shape.Gathers.idx_of_ne gathers_S2048x128_S8x128 _ (up y) 1 (by decide)

omit [FloatOps F] in
theorem read_mAll (f : S2048x128.Idx → Elt F .f32) : mAll.view.read (Elt F) f = f := by
  funext x
  refine ((View.read_apply _ _).trans (cast_eq _ _)).trans (congrArg f ?_)
  show (Rect.unit (s := S2048x128) ![0, 0] S2048x128.size inb_S2048x128_S2048x128_0_0).emb x = x
  funext a
  fin_cases a <;> refine Fin.ext ?_
  · show 0 + 1 * (x 0).val = (x 0).val; omega
  · show 0 + 1 * (x 1).val = (x 1).val; omega

omit [FloatOps F] in
theorem read_sAll (f : S2048x128.Idx → Elt F .f32) : sAll.view.read (Elt F) f = f := read_mAll f

omit [FloatOps F] in
theorem read_aRowK (f : S32x4x128.Idx → Elt F .f32) (y : S4x128.Idx) :
    (aRowK L).view.read (Elt F) f y = f (ix3 (wid L) (y 0) (y 1)) :=
  ((View.read_apply _ _).trans (cast_eq _ _)).trans (congrArg f (emb_aRowK L y))

omit [FloatOps F] in
theorem read_bRowK (f : S32x4x128.Idx → Elt F .f32) (y : S4x128.Idx) :
    (bRowK L).view.read (Elt F) f y = f (ix3 (wid L) (y 0) (y 1)) := read_aRowK L f y

omit [FloatOps F] in
/-- A row written whole holds `G` where the view places it, if what was written is what `G` reads there. -/
theorem write_row (m : Memref sig .scVector .hbm S4x128 .f32) (f G : m.view.ty.Contents (Elt F)) (X : S4x128.Idx → Elt F .f32)
    (h : ∀ y, X y = m.view.read (Elt F) G y) :
    ∀ i ∈ m.view.set, m.view.writes (Elt F) f [⟨Rect.whole S4x128, X⟩] i = G i := by
  intro i hi
  obtain ⟨y, -, rfl⟩ := Finset.mem_map.mp hi
  refine View.eq_of_read_eq ?_
  have e := View.read_writes_cons_emb m.view f (Rect.whole S4x128) X [] y
  rw [Rect.emb_whole_apply] at e
  exact e.trans (h y)

end Cert.Proof.Modulate

end
-- ==== Proof.Tile.lean ====
/-
  The SparseCore task.
-/
module

public import proofs.«01_k».proof.Proof.Values

@[expose] public section

noncomputable section

namespace Cert.Proof.Modulate

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)
variable (fI : Buf (Elt F) (iLoc d)) (fM : Buf (Elt F) (mLoc d)) (fS : Buf (Elt F) (sLoc d))

/-- What task `w` holds of the arrays: its row of the list and of the two results, its share of the two tables. -/
abbrev taskPts (w : Fin 32) (fI : Buf (Elt F) (iLoc d)) (fM : Buf (Elt F) (mLoc d)) (fS : Buf (Elt F) (sLoc d))
    (a : Buf (Elt F) (aLoc d)) (b : Buf (Elt F) (bLoc d)) : sProp 𝕄 :=
  iprop((iLoc d ↦[iSet w]{fullShare} fI) ∗ (mLoc d ↦{tq w} fM) ∗ (sLoc d ↦{tq w} fS) ∗ (aLoc d ↦[aSet w]{fullShare} a) ∗ (bLoc d ↦[bSet w]{fullShare} b))

set_option maxHeartbeats 4000000 in
theorem tile_body (hF : (K (F := F)).Facts) (hI : InRows d fI) (O : CellTallies nD τ sig (HIx 1)) (W : Waits sig (HIx 1)) (hO : ∀ g, O g none = 0)
    (a0 : Buf (Elt F) (aLoc d)) (b0 : Buf (Elt F) (bLoc d)) :
    iprop(levAts (K (F := F)).L (K (F := F)).lev ∗ emp
        ∗ taskPts d (wid L) fI fM fS a0 b0
        ∗ scopedBufs (thr d L) ∗ scopedSems0 (thr d L) ∗ owes (thr d L) O W)
      ⊢ wp frame (wpE (defs₀ (F := F)) 𝒱₀ (thr d L) none) Set.univ
          (cc0_sc_kernel L iV (Memref.isWhole_whole _) mV (Memref.isWhole_whole _) sV (Memref.isWhole_whole _) aV (Memref.isWhole_whole _) bV (Memref.isWhole_whole _)
            x0 (Memref.isWhole_whole _) x1 (Memref.isWhole_whole _) x2 (Memref.isWhole_whole _) x3 (Memref.isWhole_whole _) x4 (Memref.isWhole_whole _)
            cc0_scratch5 cc0_scratch6 cc0_scoped0 cc0_scoped1 cc0_scoped2)
          fun _ => iprop(taskPts d (wid L) fI fM fS (scaleArr fI fS) (offArr fI fM fS)
            ∗ scopedBufs (thr d L) ∗ scopedSems0 (thr d L)
            ∗ ∃ W', ⌜∀ p ∈ W', p ∈ W ∨ p.2 = none⌝ ∗ owes (thr d L) O W') := by
  simp only [cc0_sc_kernel_eq_skeleton]; unfold cc0_sc_kernel_skel
  unfold taskPts
  rw [(K (F := F)).scopedBufs_V hF d (cL L) (jL L), SparseCore.Cfg.scopedSems0_V (Val := Elt F) d (cL L) (jL L), ownSems0_V L d, ownBufs_V L d]
  iintro ⟨#Hlv, -, ⟨Hi, Hm, Hs, Ha, Hb⟩, ⟨⟨%f0, H0⟩, ⟨%f1, H1⟩, ⟨%f2, H2⟩, ⟨%f3, H3⟩, ⟨%f4, H4⟩, Hbufs⟩, ⟨S5, S6, C0, C1, C2, Hsems⟩, HO⟩
  ihave Hmw := (show levAts (K (F := F)).L (K (F := F)).lev ⊢ Transfers.MayWaits (thr d L) (default : HIx 1) O from
    (K (F := F)).mayWaits_none (thr := thr d L) hO) $$ Hlv
  ihave Hi' := (Entails.of_eq (pts_iRowK (F := F) L d _).symm) $$ Hi
  ihave Ha' := (Entails.of_eq (pts_aRowK (F := F) L d _).symm) $$ Ha
  ihave Hb' := (Entails.of_eq (pts_bRowK (F := F) L d _).symm) $$ Hb
  ihave Hm' := (Entails.of_eq (show (mLoc d ↦{tq (wid L)} fM : sProp 𝕄) = (mV.view.loc (thr d L) ↦{tq (wid L)} fM) from rfl)) $$ Hm
  ihave Hs' := (Entails.of_eq (show (sLoc d ↦{tq (wid L)} fS : sProp 𝕄) = (sV.view.loc (thr d L) ↦{tq (wid L)} fS) from rfl)) $$ Hs
  ihave H0' := (Entails.of_eq (show ((thr d L).loc cc0_scratch0 ↦{fullShare} f0 : sProp 𝕄) = (x0.view.loc (thr d L) ↦{fullShare} f0) from rfl)) $$ H0
  ihave H1' := (Entails.of_eq (show ((thr d L).loc cc0_scratch1 ↦{fullShare} f1 : sProp 𝕄) = (x1.view.loc (thr d L) ↦{fullShare} f1) from rfl)) $$ H1
  ihave H2' := (Entails.of_eq (show ((thr d L).loc cc0_scratch2 ↦{fullShare} f2 : sProp 𝕄) = (x2.view.loc (thr d L) ↦{fullShare} f2) from rfl)) $$ H2
  ihave H3' := (Entails.of_eq (show ((thr d L).loc cc0_scratch3 ↦{fullShare} f3 : sProp 𝕄) = (x3.view.loc (thr d L) ↦{fullShare} f3) from rfl)) $$ H3
  ihave H4' := (Entails.of_eq (show ((thr d L).loc cc0_scratch4 ↦{fullShare} f4 : sProp 𝕄) = (x4.view.loc (thr d L) ↦{fullShare} f4) from rfl)) $$ H4
  sl_exec
  have hx0 : x0.view.set = Finset.univ := View.set_whole _
  have hx1 : x1.view.set = Finset.univ := View.set_whole _
  have hx2 : x2.view.set = Finset.univ := View.set_whole _
  ihave H0s := (Entails.of_eq (show (x0.view.loc (thr d L) ↦{fullShare} View.write (Elt F) x0.view f0 (tile_body.sl.dma0 d L fI) Finset.univ : sProp 𝕄)
      = (x0.view.loc (thr d L) ↦[x0.view.set]{fullShare} listOf d L fI) by rw [hx0, View.write_whole_univ]; rfl)) $$ H0'
  ihave H0h := (pointsTo_share (PosShare.mem_left_op_right fullShare)).1 $$ H0s
  icases H0h with ⟨H0l, H0r⟩
  ihave Hms := (pointsTo_split_subset (q := tq (wid L)) (f := fM) (S := Finset.univ) (Finset.subset_univ mAll.view.set)).1 $$ Hm'
  icases Hms with ⟨Hms, Hmr⟩
  ihave Hss := (pointsTo_split_subset (q := tq (wid L)) (f := fS) (S := Finset.univ) (Finset.subset_univ sAll.view.set)).1 $$ Hs'
  icases Hss with ⟨Hss, Hsr⟩
  ihave H1s := (Entails.of_eq (show (x1.view.loc (thr d L) ↦{fullShare} f1 : sProp 𝕄) = (x1.view.loc (thr d L) ↦[x1.view.set]{fullShare} f1) by rw [hx1])) $$ H1'
  ihave H2s := (Entails.of_eq (show (x2.view.loc (thr d L) ↦{fullShare} f2 : sProp 𝕄) = (x2.view.loc (thr d L) ↦[x2.view.set]{fullShare} f2) by rw [hx2])) $$ H2'
  have hN1 : ∀ h : S2048x128.Gathers 0 S8x128, ∑ j, (x1.slice (S8x128.rowRect h.axis' j) (S8x128.stride_rowRect h.axis' j)).view.dmaCredit
      = x1.view.dmaCredit := by decide
  have hN2 : ∀ h : S2048x128.Gathers 0 S8x128, ∑ j, (x2.slice (S8x128.rowRect h.axis' j) (S8x128.stride_rowRect h.axis' j)).view.dmaCredit
      = x2.view.dmaCredit := by decide
  iapply (SparseCore.wp_indirectGatherLocal countersEmb 𝒱₀ (thr d L) none (hg := gathers_S2048x128_S8x128) (default : HIx 1)
      x1.view.dmaCredit (hN1 _) (by decide) (inb_list d L fI hI)) $$ [Hms H1s H0l S5]
  · isplitl [Hms]; · iexact Hms
    isplitl [H1s]; · iexact H1s
    isplitl [H0l]; · iexact H0l
    iexact S5
  iintro Hfl1
  sl_exec
  iapply (SparseCore.wp_indirectGatherLocal countersEmb 𝒱₀ (thr d L) none (hg := gathers_S2048x128_S8x128) (default : HIx 1)
      x2.view.dmaCredit (hN2 _) (by decide) (inb_list d L fI hI)) $$ [Hss H2s H0r S6]
  · isplitl [Hss]; · iexact Hss
    isplitl [H2s]; · iexact H2s
    isplitl [H0r]; · iexact H0r
    iexact S6
  iintro Hfl2
  sl_exec
  iapply (Transfers.wp_waitLocalO countersEmb 𝒱₀ (thr d L) none (default : HIx 1) (rfl : x1.view.dmaCredit = _)) $$ [Hfl1 HO]
  · isplitl [Hfl1]; · iexact Hfl1
    isplitl [HO]; · iexact HO
    iapply (Transfers.MayWaits.elim (SemLoc.dma cc0_scratch5.sem)) $$ Hmw
  iintro ⟨⟨H1w, Hms, H0l⟩, S5, HO⟩
  sl_exec
  iapply (Transfers.wp_waitLocalO countersEmb 𝒱₀ (thr d L) none (default : HIx 1) (rfl : x2.view.dmaCredit = _)) $$ [Hfl2 HO]
  · isplitl [Hfl2]; · iexact Hfl2
    isplitl [HO]; · iexact HO
    iapply (Transfers.MayWaits.elim (SemLoc.dma cc0_scratch6.sem)) $$ Hmw
  iintro ⟨⟨H2w, Hss, H0r⟩, S6, HO⟩
  ihave Hm' := (pointsTo_split_subset (q := tq (wid L)) (f := fM) (S := Finset.univ) (Finset.subset_univ mAll.view.set)).2 $$ [Hms Hmr]
  · isplitl [Hms] <;> iassumption
  ihave Hs' := (pointsTo_split_subset (q := tq (wid L)) (f := fS) (S := Finset.univ) (Finset.subset_univ sAll.view.set)).2 $$ [Hss Hsr]
  · isplitl [Hss] <;> iassumption
  ihave H0s := (pointsTo_share (PosShare.mem_left_op_right fullShare)).2 $$ [H0l H0r]
  · isplitl [H0l] <;> iassumption
  generalize hgM : rowsOf d L fI hI (mAll.view.read (Elt F) fM) = gM
  generalize hgS : rowsOf d L fI hI (sAll.view.read (Elt F) fS) = gS
  ihave H1x := (Entails.of_eq (show (x1.view.loc (thr d L) ↦[x1.view.set]{fullShare} _ : sProp 𝕄)
      = (x1.view.loc (thr d L) ↦{fullShare} gM) by rw [hx1, View.write_whole_univ, ← hgM])) $$ H1w
  ihave H2x := (Entails.of_eq (show (x2.view.loc (thr d L) ↦[x2.view.set]{fullShare} _ : sProp 𝕄)
      = (x2.view.loc (thr d L) ↦{fullShare} gS) by rw [hx2, View.write_whole_univ, ← hgS])) $$ H2w
  sl_exec
  have hgS' (y : S4x128.Idx) : gS (up y) = fS (ix2 (tblRow fI (wid L) (y 0)) (y 1)) := by
    rw [← hgS, rowsOf_up, read_sAll]
  have hgM' (y : S4x128.Idx) : gM (up y) = fM (ix2 (tblRow fI (wid L) (y 0)) (y 1)) := by
    rw [← hgM, rowsOf_up, read_mAll]
  have hA (y : S4x128.Idx) : tile_body.sl.dma192 d L f3 gS y = (aRowK L).view.read (Elt F) (scaleArr fI fS) y := by
    refine (View.read_writes_apply_of_pieces x3.view f3 (fun y => scl (gS (up y))) _ ?_ y
      (View.cover_of_tiled (tile_body.sl.H3'_32 gS) ![1, 16] rfl y)).trans ?_
    · unfold tile_body.sl.H3'_32
      repeat (refine List.forall_mem_cons.2 ⟨fun x => scale_piece gS _ (by decide) (by decide) x, ?_⟩)
      exact List.forall_mem_nil _
    · rw [hgS', read_aRowK]; rfl
  have hB (y : S4x128.Idx) : tile_body.sl.dma192_1 d L f4 gM gS y = (bRowK L).view.read (Elt F) (offArr fI fM fS) y := by
    refine (View.read_writes_apply_of_pieces x4.view f4 (fun y => off (gM (up y)) (gS (up y))) _ ?_ y
      (View.cover_of_tiled (tile_body.sl.H4'_32 gM gS) ![1, 16] rfl y)).trans ?_
    · unfold tile_body.sl.H4'_32
      repeat (refine List.forall_mem_cons.2 ⟨fun x => off_piece gM gS _ (by decide) (by decide) x, ?_⟩)
      exact List.forall_mem_nil _
    · rw [hgS', hgM', read_bRowK]; rfl
  sl_step
  ihave Ha := (Entails.of_eq ((pointsTo_congr (write_row (aRowK L) a0 (scaleArr fI fS) _ hA)).trans (pts_aRowK (F := F) L d _))) $$ Ha'
  ihave Hb := (Entails.of_eq ((pointsTo_congr (write_row (bRowK L) b0 (offArr fI fM fS) _ hB)).trans (pts_bRowK (F := F) L d _))) $$ Hb'
  ihave Hi := (Entails.of_eq (pts_iRowK (F := F) L d _)) $$ Hi'
  isplitl [Hi Hm' Hs' Ha Hb]
  · isplitl [Hi]; · iexact Hi
    isplitl [Hm']; · iexact Hm'
    isplitl [Hs']; · iexact Hs'
    isplitl [Ha]; · iexact Ha
    iexact Hb
  isplitl [H0s H1x H2x H3' H4' Hbufs]
  · isplitl [H0s]
    · iexists (listOf d L fI : Buf (Elt F) ((thr d L).loc cc0_scratch0))
      iapply (Entails.of_eq (show (x0.view.loc (thr d L) ↦[x0.view.set]{fullShare} listOf d L fI : sProp 𝕄)
        = ((thr d L).loc cc0_scratch0 ↦{fullShare} listOf d L fI) by rw [hx0])) $$ H0s
    isplitl [H1x]; · iexists _; iexact H1x
    isplitl [H2x]; · iexists _; iexact H2x
    isplitl [H3']; · iexists _; iexact H3'
    isplitl [H4']; · iexists _; iexact H4'
    iexact Hbufs
  isplitl [S5 S6 C0 C1 C2 Hsems]
  · isplitl [S5]; · iexact S5
    isplitl [S6]; · iexact S6
    isplitl [C0]; · iexact C0
    isplitl [C1]; · iexact C1
    isplitl [C2]; · iexact C2
    iexact Hsems
  iexists _
  isplitr
  rotate_left
  · iexact HO
  · ipureintro
    intro p hp
    simp only [Finset.mem_insert] at hp
    rcases hp with rfl | rfl | rfl | rfl | rfl | hp
    all_goals first | exact Or.inr rfl | exact Or.inl hp

end Cert.Proof.Modulate

end
-- ==== Proof.Launch.lean ====
/-
  The SparseCore launch: what the handshakes carry, a task's obligation, and the arrays split among the thirty-two tasks.
-/
module

public import proofs.«01_k».proof.Proof.Tile

@[expose] public section

noncomputable section

namespace Cert.Proof.Modulate

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- What the arrays of the call hold on each device when it starts. -/
structure CallIn (F : FTy → Type) where
  list : (d : Dev nD) → Buf (Elt F) (iLoc d)
  mean : (d : Dev nD) → Buf (Elt F) (mLoc d)
  dev : (d : Dev nD) → Buf (Elt F) (sLoc d)
  scale : (d : Dev nD) → Buf (Elt F) (aLoc d)
  offset : (d : Dev nD) → Buf (Elt F) (bLoc d)

variable (C : CallIn F)

/-- The task of SparseCore `c`, subcore `s`, by its row. -/
def wOf (c : Fin 2) (s : Fin 16) : Fin 32 := ⟨2 * s.val + c.val, by omega⟩

/-- What a task is handed, and what it brings back. -/
abbrev goPts (d : Dev nD) (w : Fin 32) : sProp 𝕄 := taskPts d w (C.list d) (C.mean d) (C.dev d) (C.scale d) (C.offset d)
abbrev tdPts (d : Dev nD) (w : Fin 32) : sProp 𝕄 :=
  taskPts d w (C.list d) (C.mean d) (C.dev d) (scaleArr (C.list d) (C.dev d)) (offArr (C.list d) (C.mean d) (C.dev d))

def P : (K (F := F)).Pay (nD := nD) (Val := Elt F) (Name := ℕ) (U := UU) where
  st := fun q d c => match q with | 0 => bigSep Finset.univ fun s : Fin 16 => goPts C d (wOf (Fin.cast nCore_zero c) s)
  dn := fun q d c => match q with | 0 => bigSep Finset.univ fun s : Fin 16 => tdPts C d (wOf (Fin.cast nCore_zero c) s)
  go := fun q d c i => match q with | 0 => goPts C d (wOf (Fin.cast nCore_zero c) (Fin.cast nSub_zero i))
  td := fun q d c i => match q with | 0 => tdPts C d (wOf (Fin.cast nCore_zero c) (Fin.cast nSub_zero i))
  x := fun _ _ => iprop(emp)

instance P_storable : (P C).IsStorable where
  st q d c := match q with
    | 0 => (inferInstance : BI.Storable (upEmb : UEmb _ 𝕄) (bigSep Finset.univ fun s : Fin 16 => goPts C d (wOf (Fin.cast nCore_zero c) s)))
  dn q d c := match q with
    | 0 => (inferInstance : BI.Storable (upEmb : UEmb _ 𝕄) (bigSep Finset.univ fun s : Fin 16 => tdPts C d (wOf (Fin.cast nCore_zero c) s)))
  go q d c i := match q with
    | 0 => (inferInstance : BI.Storable (upEmb : UEmb _ 𝕄) (goPts C d (wOf (Fin.cast nCore_zero c) (Fin.cast nSub_zero i))))
  td q d c i := match q with
    | 0 => (inferInstance : BI.Storable (upEmb : UEmb _ 𝕄) (tdPts C d (wOf (Fin.cast nCore_zero c) (Fin.cast nSub_zero i))))

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_sc_kernel (coordsV c s)
          iV (Memref.isWhole_whole _) mV (Memref.isWhole_whole _) sV (Memref.isWhole_whole _) aV (Memref.isWhole_whole _) bV (Memref.isWhole_whole _)
          x0 (Memref.isWhole_whole _) x1 (Memref.isWhole_whole _) x2 (Memref.isWhole_whole _) x3 (Memref.isWhole_whole _) x4 (Memref.isWhole_whole _)
          cc0_scratch5 cc0_scratch6 cc0_scoped0 cc0_scoped1 cc0_scoped2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hI : ∀ d, InRows d (C.list d)) : (K (F := F)).TileObl (D (F := F)) 𝒱 (P C) v₀ 0 := by
  intro d c i O W hO _ _
  simp only [show (P C).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (C.list d) (C.mean d) (C.dev d) facts (hI d) O W hO (C.scale d) (C.offset d)).trans
    (wp_mono frame _ _ fun _ => obl_post)

/-! ## The arrays split among the tasks -/

omit [FloatOps F] in
theorem iSet_eq (w : Fin 32) : iSet w = (irow w).set := by
  show ((View.whole (main_v11_scv : Ref sig .scVector)).slice (irow w)).set = _
  rw [View.set_slice]; exact Finset.map_refl
omit [FloatOps F] in
theorem aSet_eq (w : Fin 32) : aSet w = (orow w).set := by
  show ((View.whole (main_v14_0_scv : Ref sig .scVector)).slice (orow w)).set = _
  rw [View.set_slice]; exact Finset.map_refl
omit [FloatOps F] in
theorem bSet_eq (w : Fin 32) : bSet w = (orow w).set := by
  show ((View.whole (main_v14_1_scv : Ref sig .scVector)).slice (orow w)).set = _
  rw [View.set_slice]; exact Finset.map_refl

omit [FloatOps F] in
theorem iPts_rows (d : Dev nD) (f : Buf (Elt F) (iLoc d)) :
    (iLoc d ↦{fullShare} f : sProp 𝕄) = bigSep Finset.univ fun w : Fin 32 => iLoc d ↦[iSet w]{fullShare} f := by
  rw [← pointsTo_biUnion Finset.univ (ℓ := iLoc d) iSet fun w _ w' _ h => by rw [iSet_eq, iSet_eq]; exact Rect.part_disjoint idiv h,
    show (Finset.univ : Finset (Fin 32)).biUnion iSet = Finset.univ from (Finset.biUnion_congr rfl fun w _ => iSet_eq w).trans (Rect.biUnion_part idiv)]
  try rfl
omit [FloatOps F] in
theorem aPts_rows (d : Dev nD) (f : Buf (Elt F) (aLoc d)) :
    (aLoc d ↦{fullShare} f : sProp 𝕄) = bigSep Finset.univ fun w : Fin 32 => aLoc d ↦[aSet w]{fullShare} f := by
  rw [← pointsTo_biUnion Finset.univ (ℓ := aLoc d) aSet fun w _ w' _ h => by rw [aSet_eq, aSet_eq]; exact Rect.part_disjoint odiv h,
    show (Finset.univ : Finset (Fin 32)).biUnion aSet = Finset.univ from (Finset.biUnion_congr rfl fun w _ => aSet_eq w).trans (Rect.biUnion_part odiv)]
  try rfl
omit [FloatOps F] in
theorem bPts_rows (d : Dev nD) (f : Buf (Elt F) (bLoc d)) :
    (bLoc d ↦{fullShare} f : sProp 𝕄) = bigSep Finset.univ fun w : Fin 32 => bLoc d ↦[bSet w]{fullShare} f := by
  rw [← pointsTo_biUnion Finset.univ (ℓ := bLoc d) bSet fun w _ w' _ h => by rw [bSet_eq, bSet_eq]; exact Rect.part_disjoint odiv h,
    show (Finset.univ : Finset (Fin 32)).biUnion bSet = Finset.univ from (Finset.biUnion_congr rfl fun w _ => bSet_eq w).trans (Rect.biUnion_part odiv)]
  try rfl

/-- The five arrays of the call, held whole. -/
abbrev arrPts (d : Dev nD) (fI : Buf (Elt F) (iLoc d)) (fM : Buf (Elt F) (mLoc d)) (fS : Buf (Elt F) (sLoc d))
    (a : Buf (Elt F) (aLoc d)) (b : Buf (Elt F) (bLoc d)) : sProp 𝕄 :=
  iprop((iLoc d ↦{fullShare} fI) ∗ (mLoc d ↦{fullShare} fM) ∗ (sLoc d ↦{fullShare} fS) ∗ (aLoc d ↦{fullShare} a) ∗ (bLoc d ↦{fullShare} b))

omit [FloatOps F] in
theorem arrPts_tasks (d : Dev nD) (fI : Buf (Elt F) (iLoc d)) (fM : Buf (Elt F) (mLoc d)) (fS : Buf (Elt F) (sLoc d))
    (a : Buf (Elt F) (aLoc d)) (b : Buf (Elt F) (bLoc d)) :
    arrPts d fI fM fS a b = bigSep Finset.univ fun w : Fin 32 => taskPts d w fI fM fS a b := by
  rw [bigSep_sep', bigSep_sep', bigSep_sep', bigSep_sep']
  unfold arrPts
  rw [iPts_rows, aPts_rows, bPts_rows, pointsTo_piecesOf Finset.univ fM (show 0 < 32 by decide) fullShare,
    pointsTo_piecesOf Finset.univ fS (show 0 < 32 by decide) fullShare]

/-- The tasks, by SparseCore and subcore. -/
def taskEquiv : Fin 2 × Fin 16 ≃ Fin 32 where
  toFun p := wOf p.1 p.2
  invFun w := (⟨w.val % 2, Nat.mod_lt _ (by decide)⟩, ⟨w.val / 2, by omega⟩)
  left_inv := by decide
  right_inv := by decide

omit [FloatOps F] in
theorem bigSep_wOf (Φ : Fin 32 → sProp 𝕄) :
    bigSep Finset.univ Φ = bigSep Finset.univ fun c : Fin 2 => bigSep Finset.univ fun s : Fin 16 => Φ (wOf c s) := by
  rw [BI.bigSep_univ_equiv taskEquiv, BI.bigSep_univ_prod]; rfl

theorem vecSplit : (K (F := F)).VecSplit' (P C) 0 := by
  intro d c
  show (bigSep Finset.univ fun s : Fin 16 => goPts C d (wOf (Fin.cast nCore_zero c) s)) ⊢ |={Set.univ}=> iprop(
      (bigSep Finset.univ fun s : Fin 16 => goPts C d (wOf (Fin.cast nCore_zero c) s))
      ∗ ((bigSep Finset.univ fun s : Fin 16 => tdPts C d (wOf (Fin.cast nCore_zero c) s))
          -∗ (bigSep Finset.univ fun s : Fin 16 => tdPts C d (wOf (Fin.cast nCore_zero c) s))))
  iintro H; imodintro
  isplitl [H]; · iexact H
  iintro H; iexact H

/-- What the call takes, and what it leaves: the result arrays at the scale and the offset. -/
theorem st_eq (d : Dev nD) : (bigSep Finset.univ fun c : Fin ((K (F := F)).nCore 0) => (P C).st 0 d c)
    = arrPts d (C.list d) (C.mean d) (C.dev d) (C.scale d) (C.offset d) := by
  rw [arrPts_tasks, bigSep_wOf]; rfl
theorem dn_eq (d : Dev nD) : (bigSep Finset.univ fun c : Fin ((K (F := F)).nCore 0) => (P C).dn 0 d c)
    = arrPts d (C.list d) (C.mean d) (C.dev d) (scaleArr (C.list d) (C.dev d)) (offArr (C.list d) (C.mean d) (C.dev d)) := by
  rw [arrPts_tasks, bigSep_wOf]; rfl

end Cert.Proof.Modulate

end
-- ==== Proof.Region.lean ====
/-
  The TensorCore's part: on each of its grid's points the body stages a block of the array and the two rows of the
  block's batch entry, and writes the block scaled by the one row and offset by the other.
-/
module

public import proofs.«01_k».proof.Proof.Base
public import Idealize.ShloMosaic.Lib.Pipeline.FrameBody
public import Idealize.ShloMosaic.Lib.Pipeline.ValueKit
public import Idealize.ShloMosaic.Lib.WholeRead
public import Idealize.ShloMosaic.Lib.Writes
public import Idealize.ShloMosaic.Lib.Pointwise.Index

@[expose] public section

set_option maxRecDepth 16384

noncomputable section

namespace Cert.Proof.Modulate

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig (HIx 1) (Elt F) ℕ UU ℕ

/-- A memref's buffer on device `c`'s TensorCore, held whole at `f`. -/
abbrev ptT (c : Dev nD) {sp : Space} {S : Shape} {e : EltTy} (M : Memref sig .tc sp S e) (f : Buf (Elt F) (M.view.loc (c : Thread nD τ))) : sProp 𝕄 :=
  M.view.loc (c : Thread nD τ) ↦{fullShare} f

/-- The body, its four staging buffers held whole: it leaves in the fourth what reads as the first scaled and offset. -/
theorem body_run (c : Dev nD) (i : grid1.Coords)
    (M0 : Memref sig .tc .vmem S1x512x4096 .f32) (h0 : M0.IsWhole) (M1 : Memref sig .tc .vmem S1x1x4096 .f32) (h1 : M1.IsWhole)
    (M2 : Memref sig .tc .vmem S1x1x4096 .f32) (h2 : M2.IsWhole) (M3 : Memref sig .tc .vmem S1x512x4096 .f32) (h3 : M3.IsWhole)
    (f0 : Buf (Elt F) (M0.view.loc (c : Thread nD τ))) (f1 : Buf (Elt F) (M1.view.loc (c : Thread nD τ)))
    (f2 : Buf (Elt F) (M2.view.loc (c : Thread nD τ))) (f3 : Buf (Elt F) (M3.view.loc (c : Thread nD τ)))
    (E : Set ℕ) (Q : PUnit → sProp 𝕄) :
    iprop(ptT c M0 f0 ∗ ptT c M1 f1 ∗ ptT c M2 f2 ∗ ptT c M3 f3
        ∗ (∀ g : Buf (Elt F) (M3.view.loc (c : Thread nD τ)),
            iprop(⌜M3.view.read (Elt F) g = k1_pay1 (M0.view.read (Elt F) f0) (M1.view.read (Elt F) f1) (M2.view.read (Elt F) f2)⌝
              ∗ ptT c M0 f0 ∗ ptT c M1 f1 ∗ ptT c M2 f2 ∗ ptT c M3 g) -∗ Q ⟨⟩))
      ⊢ wp frame (wpE (defs₀ (F := F)) 𝒱₀ c none) E (cc1__tc_body i M0 h0 M1 h1 M2 h2 M3 h3) Q := by
  rw [show cc1__tc_body (F := F) i M0 h0 M1 h1 M2 h2 M3 h3 = cc1__tc_body_skel i M0 h0 M1 h1 M2 h2 M3 h3 from
    congrFun (congrFun (congrFun (congrFun (congrFun (congrFun (congrFun (congrFun (congrFun cc1__tc_body_eq_skeleton i) M0) h0) M1) h1) M2) h2) M3) h3]
  unfold cc1__tc_body_skel
  iintro ⟨H0, H1, H2, H3, Hk⟩
  sl_exec!
  sl_step
  iapply Hk $$ %_
  isplitr; swap
  · isplitl [H0]; · iexact H0
    isplitl [H1]; · iexact H1
    isplitl [H2]; · iexact H2
    iexact H3
  ipureintro
  have rd : ∀ {S : Shape} (M : Memref sig .tc .vmem S .f32) (f : Buf (Elt F) (M.view.loc (c : Thread nD τ)))
      {o : Fin S.rank → Nat} (ho : o = fun _ => 0) (inb : ∀ a, o a + S.size a ≤ S.size a),
      M.view.readAt (Elt F) (Rect.unit o S.size inb).toLoadRect f = M.view.read (Elt F) f := by
    intro S M f o ho inb; subst ho; exact View.ld_unit_zero rfl inb (M.view.read (Elt F) f)
  unfold body_run.sl.H3_1
  have hz : (![0, 0, 0] : Fin 3 → Nat) = fun _ => 0 := by decide
  rw [rd M0 f0 hz, rd M1 f1 hz, rd M2 f2 hz]
  refine funext fun y => ?_
  have := View.read_writes_cons_emb (Val := Elt F) M3.view M3.view.junk (Rect.unit ![0, 0, 0] S1x512x4096.size inb_S1x512x4096_S1x512x4096_0_0_0)
    (k1_pay1 (M0.view.read (Elt F) f0) (M1.view.read (Elt F) f1) (M2.view.read (Elt F) f2)) [] y
  rwa [show (Rect.unit (s := S1x512x4096) ![0, 0, 0] S1x512x4096.size inb_S1x512x4096_S1x512x4096_0_0_0).emb y = y from
    congrFun (View.ld_unit_zero (Val := fun _ => S1x512x4096.Idx) (e := .f32) hz inb_S1x512x4096_S1x512x4096_0_0_0 id) y] at this

/-- A whole memref is owned as its buffer is held. -/
theorem owns_of_whole (c : Dev nD) {sp : Space} {S : Shape} {e : EltTy} (M : Memref sig .tc sp S e) (h : M.IsWhole) (X : S.Idx → Elt F e) :
    (owns (c : Thread nD τ) M fullShare X : sProp 𝕄) = iprop(∃ f, ⌜M.view.read (Elt F) f = X⌝ ∗ ptT c M f) := by
  unfold owns; rw [h.set_eq_univ]

/-- The body over what its four staging buffers read. -/
theorem body_owns (c : Dev nD) (i : grid1.Coords)
    (M0 : Memref sig .tc .vmem S1x512x4096 .f32) (h0 : M0.IsWhole) (M1 : Memref sig .tc .vmem S1x1x4096 .f32) (h1 : M1.IsWhole)
    (M2 : Memref sig .tc .vmem S1x1x4096 .f32) (h2 : M2.IsWhole) (M3 : Memref sig .tc .vmem S1x512x4096 .f32) (h3 : M3.IsWhole)
    (X0 X3 : S1x512x4096.Idx → Elt F .f32) (X1 X2 : S1x1x4096.Idx → Elt F .f32) (E : Set ℕ) (Q : PUnit → sProp 𝕄) :
    iprop(owns (c : Thread nD τ) M0 fullShare X0 ∗ owns (c : Thread nD τ) M1 fullShare X1 ∗ owns (c : Thread nD τ) M2 fullShare X2
        ∗ owns (c : Thread nD τ) M3 fullShare X3
        ∗ (iprop(owns (c : Thread nD τ) M0 fullShare X0 ∗ owns (c : Thread nD τ) M1 fullShare X1 ∗ owns (c : Thread nD τ) M2 fullShare X2
              ∗ owns (c : Thread nD τ) M3 fullShare (k1_pay1 X0 X1 X2)) -∗ Q ⟨⟩))
      ⊢ wp frame (wpE (defs₀ (F := F)) 𝒱₀ c none) E (cc1__tc_body i M0 h0 M1 h1 M2 h2 M3 h3) Q := by
  rw [owns_of_whole c M0 h0, owns_of_whole c M1 h1, owns_of_whole c M2 h2, owns_of_whole c M3 h3 X3, owns_of_whole c M3 h3 (k1_pay1 X0 X1 X2)]
  iintro ⟨⟨%f0, %e0, H0⟩, ⟨%f1, %e1, H1⟩, ⟨%f2, %e2, H2⟩, ⟨%f3, -, H3⟩, Hk⟩
  subst e0 e1 e2
  iapply (body_run c i M0 h0 M1 h1 M2 h2 M3 h3 f0 f1 f2 f3 E Q) $$ [H0 H1 H2 H3 Hk]
  isplitl [H0]; · iexact H0
  isplitl [H1]; · iexact H1
  isplitl [H2]; · iexact H2
  isplitl [H3]; · iexact H3
  iintro %g ⟨%hg, H0, H1, H2, H3⟩
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists g; isplitr; · ipureintro; exact hg
  iexact H3

/-! ## The proof data, at an entry valuation -/

variable (V : (c : Dev nD) → (b : Ref sig .tc) → Buf (Elt F) ((c : Thread nD τ).loc b))

/-- What the fetch at point `t` stages of each of the three operands. -/
abbrev blk0 (c : Dev nD) (t : Fin cfg1.N) : S1x512x4096.Idx → Elt F .f32 := ((cfg1.win 0).blk t).view.read (Elt F) (V c main_arg0)
abbrev blk1 (c : Dev nD) (t : Fin cfg1.N) : S1x1x4096.Idx → Elt F .f32 := ((cfg1.win 1).blk t).view.read (Elt F) (V c main_v16)
abbrev blk2 (c : Dev nD) (t : Fin cfg1.N) : S1x1x4096.Idx → Elt F .f32 := ((cfg1.win 2).blk t).view.read (Elt F) (V c main_v18)

/-- The invariant between the region's ends: the scoped buffers the pipeline does not stage. -/
abbrev Φc (c : Dev nD) : sProp 𝕄 := Pipeline.scopedRest (Ix := HIx 1) (Name := ℕ) (U := UU) (Lvl := ℕ) (Val := Elt F) spec1 c

/-- The proof data of the region entered at `V`: the operands' buffers left at what was fetched, the result's at the
    body's payload; nothing owed; the recorded pairs at or below level `b`. -/
def dat (b : ℕ) (c : Dev nD) : Dat τ (Elt F) (HIx 1) ℕ UU ℕ cfg1 c where
  A w := V c (Pipeline.arrRef spec1 w)
  after w t := match w with
    | ⟨0, _⟩ => blk0 V c t
    | ⟨1, _⟩ => blk1 V c t
    | ⟨2, _⟩ => blk2 V c t
    | ⟨3, _⟩ => k1_pay1 (blk0 V c t) (blk1 V c t) (blk2 V c t)
  Φ _ := Φc c
  q _ := fullShare
  owed _ := 0
  recorded _ := {p | (K (F := F)).lev ((c : Thread nD τ), p.1) p.2 ≤ b}

variable (b : ℕ)

theorem before_0 (c : Dev nD) (t : Fin cfg1.N) (d : (cfg1.win 0).block.Idx → Elt F (cfg1.win 0).elt) :
    (dat V b c).before 0 t d = blk0 V c t :=
  (dat V b c).before_in_eq_fetched 0 rfl (fun _ => rfl) (fun _ _ _ => rfl) (fun _ => rfl) t d
theorem before_1 (c : Dev nD) (t : Fin cfg1.N) (d : (cfg1.win 1).block.Idx → Elt F (cfg1.win 1).elt) :
    (dat V b c).before 1 t d = blk1 V c t :=
  (dat V b c).before_in_eq_fetched 1 rfl (fun _ => rfl) (fun _ _ _ => rfl) (fun _ => rfl) t d
theorem before_2 (c : Dev nD) (t : Fin cfg1.N) (d : (cfg1.win 2).block.Idx → Elt F (cfg1.win 2).elt) :
    (dat V b c).before 2 t d = blk2 V c t :=
  (dat V b c).before_in_eq_fetched 2 rfl (fun _ => rfl) (fun _ _ _ => rfl) (fun _ => rfl) t d

theorem body_obligation (c : Dev nD) : BodyObligation (dat V b c) (defs₀ (F := F)) 𝒱₀ none Set.univ := fun t => by
  rw [bigSep_W1, bigSep_W1]
  rw [show (dat V b c).Φ t.castSucc = Φc c from rfl, show (dat V b c).Φ t.succ = Φc c from rfl,
    show (dat V b c).owesAt none t.succ = (dat V b c).owesAt none t.castSucc from rfl]
  simp only [before_0, before_1, before_2]
  iintro ⟨HΦ, Howes, ⟨%d0, H0⟩, ⟨%d1, H1⟩, ⟨%d2, H2⟩, ⟨%d3, H3⟩⟩
  iapply (body_owns c (grid1.coords t) (st1_0 t) (hstage1_0 ((cfg1.slots t 0).cast nbuf1_0)) (st1_1 t) (hstage1_1 ((cfg1.slots t 1).cast nbuf1_1))
    (st1_2 t) (hstage1_2 ((cfg1.slots t 2).cast nbuf1_2)) (st1_3 t) (hstage1_3 ((cfg1.slots t 3).cast nbuf1_3))
    (blk0 V c t) ((dat V b c).before 3 t d3) (blk1 V c t) (blk2 V c t) Set.univ _)
  isplitl [H0]; · iexact H0
  isplitl [H1]; · iexact H1
  isplitl [H2]; · iexact H2
  isplitl [H3]; · iexact H3
  iintro ⟨H0, H1, H2, H3⟩
  isplitl [HΦ]; · iexact HΦ
  isplitl [Howes]; · iexact Howes
  isplitl [H0]; · iexact H0
  isplitl [H1]; · iexact H1
  isplitl [H2]; · iexact H2
  iexact H3

/-! ## What the region leaves in its result -/

/-- The array scaled and offset along its last axis by its batch entry's rows. -/
def rowMod (x : S4x4096x4096.Idx → Elt F .f32) (sc ofs : S4x1x4096.Idx → Elt F .f32) : S4x4096x4096.Idx → Elt F .f32 :=
  fun j => FloatOps.addf (FloatOps.mulf (x j) (sc (ix3 (j 0) (0 : Fin 1) (j 2)))) (ofs (ix3 (j 0) (0 : Fin 1) (j 2)))

/-- The body's payload at an index. -/
theorem pay_apply (X : S1x512x4096.Idx → Elt F .f32) (A B : S1x1x4096.Idx → Elt F .f32) (y : S1x512x4096.Idx) :
    k1_pay1 X A B y = FloatOps.addf (FloatOps.mulf (X y) (A (ix3 (0 : Fin 1) (0 : Fin 1) (y 2)))) (B (ix3 (0 : Fin 1) (0 : Fin 1) (y 2))) := by
  have e : ∀ A : S1x1x4096.Idx → Elt F .f32, broadcastTo S1x512x4096 (shapeCast S1x1x4096 A shapeCasts_S1x1x4096_S1x1x4096) broadcasts_S1x1x4096_S1x512x4096 y
      = A (ix3 (0 : Fin 1) (0 : Fin 1) (y 2)) := by
    intro A
    rw [shapeCast_self]
    exact broadcastTo_apply _ _ _ _ (by intro a; fin_cases a <;> rfl)
  show FloatOps.addf (FloatOps.mulf (X y) (broadcastTo _ _ _ y)) (broadcastTo _ _ _ y) = _
  rw [e, e]

theorem idx0 : ∀ t : Fin cfg1.N, win1_0.index t = ![(grid1.coords t 0).val, (grid1.coords t 1).val, 0] := (by decide +kernel : ∀ t : Fin grid1.N, _)
theorem idx1 : ∀ t : Fin cfg1.N, win1_1.index t = ![(grid1.coords t 0).val, 0, 0] := (by decide +kernel : ∀ t : Fin grid1.N, _)
theorem idx2 : ∀ t : Fin cfg1.N, win1_2.index t = ![(grid1.coords t 0).val, 0, 0] := (by decide +kernel : ∀ t : Fin grid1.N, _)
theorem idx3 : ∀ t : Fin cfg1.N, win1_3.index t = ![(grid1.coords t 0).val, (grid1.coords t 1).val, 0] := (by decide +kernel : ∀ t : Fin grid1.N, _)

theorem result_eq (c : Dev nD) : (dat V b c).arrAt 3 cfg1.N = rowMod (V c main_arg0) (V c main_v16) (V c main_v18) := by
  refine (dat V b c).arrAt_eq_of_covers 3 _ (by decide +kernel) fun t hf y => ?_
  blk_simp
  refine (pay_apply (blk0 V c t) (blk1 V c t) (blk2 V c t) y).trans ?_
  unfold rowMod

  have e0 : blk0 V c t y = V c main_arg0 ((win1_3.blk t).view.emb y) := by
    blk_ext [idx0, idx3]
  have e1 : blk1 V c t (ix3 (0 : Fin 1) (0 : Fin 1) (y 2)) = V c main_v16 (ix3 (((win1_3.blk t).view.emb y) 0) (0 : Fin 1) (((win1_3.blk t).view.emb y) 2)) := by
    refine congrArg (V c main_v16) (?_ : (win1_1.blk t).view.emb (ix3 (0 : Fin 1) (0 : Fin 1) (y 2)) = _)
    blk_ext [idx1, idx3]
  have e2 : blk2 V c t (ix3 (0 : Fin 1) (0 : Fin 1) (y 2)) = V c main_v18 (ix3 (((win1_3.blk t).view.emb y) 0) (0 : Fin 1) (((win1_3.blk t).view.emb y) 2)) := by
    refine congrArg (V c main_v18) (?_ : (win1_2.blk t).view.emb (ix3 (0 : Fin 1) (0 : Fin 1) (y 2)) = _)
    blk_ext [idx2, idx3]
  rw [e0, e1, e2]

/-! ## The region over the thread state -/

/-- The pipeline's one configuration, admitted. -/
abbrev adm : (p : Fin 1) → (pcfgs (F := F) p).Adm := fun p => (cfgs p).toPCfg_adm

/-- The proof data as the library takes it, over every pipeline of the program. -/
def pdats : (p : Fin 1) → (c : Dev nD) → Dat τ (Elt F) (HIx 1) ℕ UU ℕ (Pipeline.pin (pcfgs (F := F)) adm p) c
  | ⟨0, _⟩ => fun c => dat V b c

variable (Vp : (c : Dev nD) → (b : Ref sig .tc) → Buf (Elt F) ((c : Thread nD τ).loc b))

set_option backward.isDefEq.respectTransparency.types false in
/-- The region over every unscoped buffer at a valuation: entered at `V`, left at any `Vp` that has the result scaled
    and offset and agrees with `V` elsewhere; the core's recorded pairs stay at or below level `b`. -/
def reg (hVp_out : ∀ c, Vp c main_v19 = rowMod (V c main_arg0) (V c main_v16) (V c main_v18))
    (hVp_ne : ∀ c (r : Ref sig .tc), r ≠ main_v19 → Vp c r = V c r) :
    Pipeline.RegionSeg (pcfgs (F := F)) adm (pdats V b) (none : HIx 1) defs₀ 𝒱₀ (K (F := F)).L (K (F := F)).lev 0 where
  win := (launch1).win.to₀
  block_pos := (launch1).block_pos
  stage_whole := (launch1).stage_whole
  K := PEmpty
  osem k := k.elim
  ho := Pipeline.OwnSemFacts.none _
  hbody c := (body_obligation V b c).loose
  hwaits := Pipeline.hwaits_of_owed_zero _ _ _ _ (K (F := F)).L (K (F := F)).lev 0 fun _ _ => rfl
  pre c := iprop(unscopedBufs c (V c) ∗ ∃ W, ⌜(K (F := F)).WBelow (c : Thread nD τ) W b⌝ ∗ owes (c : Thread nD τ) (0 : CellTallies nD τ sig (HIx 1)) W)
  post c := iprop(unscopedBufs c (Vp c) ∗ ∃ W, ⌜(K (F := F)).WBelow (c : Thread nD τ) W b⌝ ∗ owes (c : Thread nD τ) (0 : CellTallies nD τ sig (HIx 1)) W)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats V b) (launch1).win (launch1).arr_whole c
      ((pdats V b 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V b 0 c).Φ 0 = Φc c from rfl]
    iintro ⟨-, -, Hr⟩; iexact Hr
  hout c := by
    rw [Pipeline.ownSems0_none, show (pdats V b 0 c).Φ (Fin.last _) = Φc c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) (launch1).win (launch1).arr_whole c
      (pdats V b) ((pdats V b 0 c).share_full fun _ => rfl) (V c) (Vp c) ((pdats V b 0 c).arrAt · cfg1.N)
      (fun w => by
        fin_cases w
        · exact ((pdats V b 0 c).arrAt_in 0 rfl _).trans (hVp_ne c main_arg0 (by decide)).symm
        · exact ((pdats V b 0 c).arrAt_in 1 rfl _).trans (hVp_ne c main_v16 (by decide)).symm
        · exact ((pdats V b 0 c).arrAt_in 2 rfl _).trans (hVp_ne c main_v18 (by decide)).symm
        · exact (result_eq V b c).trans (hVp_out c).symm)
      (fun r hr => hVp_ne c r fun h => hr (h ▸ Finset.mem_image.mpr ⟨3, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W
    isplitr
    · ipureintro
      intro p hp
      rcases hW hp with h | ⟨w, s, rfl⟩
      · exact h
      · exact Nat.zero_le _
    iexact HO

end Cert.Proof.Modulate

end
-- ==== Proof.Main.lean ====
/-
  The whole program's run: the host operations that lay out the index list and the tables, the SparseCore call, the
  host operations that lay out the rows, and the TensorCore's pipeline; and from it what the memory holds at the end.
-/
module

public import proofs.«01_k».proof.Proof.Launch
public import proofs.«01_k».proof.Proof.Region

@[expose] public section

set_option maxRecDepth 16384

noncomputable section

namespace Cert.Proof.Modulate

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (ucRefs unscopedBufs_held)

variable {F : FTy → Type} [FloatOps F]

local notation "𝕄" => MT nD τ sig (HIx 1) (Elt F) ℕ UU ℕ

/-- The host operations before the call: the index list and the two tables' rows. -/
abbrev opsA : List (HloOp τ sig (Elt F)) :=
  [StableHlo.reshape main_arg1 main_v0 (rfl : (.i32 : EltTy) = .i32) shapeCasts_S4x1_S4,
   StableHlo.unary main_v0 main_v1 (broadcastInDim S1x4 ![1] bcast_S4_S1x4_1 : (⟨S4, .i32⟩ : BufTy).Contents (Elt F) → (⟨S1x4, .i32⟩ : BufTy).Contents (Elt F)),
   StableHlo.nullary main_c (constantI S_ 32 32#32),
   StableHlo.unary main_c main_v2 (broadcastInDim S1x4 ![] bcast_S_S1x4 : (⟨S_, .i32⟩ : BufTy).Contents (Elt F) → (⟨S1x4, .i32⟩ : BufTy).Contents (Elt F)),
   StableHlo.binary main_v1 main_v2 main_v3 (muli : (⟨S1x4, .i32⟩ : BufTy).Contents (Elt F) → (⟨S1x4, .i32⟩ : BufTy).Contents (Elt F) → (⟨S1x4, .i32⟩ : BufTy).Contents (Elt F)),
   StableHlo.nullary main_v4 (iotaInDim S32 32 0),
   StableHlo.unary main_v4 main_v5 (broadcastInDim S32x1 ![0] bcast_S32_S32x1_0 : (⟨S32, .i32⟩ : BufTy).Contents (Elt F) → (⟨S32x1, .i32⟩ : BufTy).Contents (Elt F)),
   StableHlo.unary main_v3 main_v6 (broadcastInDim S32x4 ![0, 1] bcast_S1x4_S32x4_0_1 : (⟨S1x4, .i32⟩ : BufTy).Contents (Elt F) → (⟨S32x4, .i32⟩ : BufTy).Contents (Elt F)),
   StableHlo.unary main_v5 main_v7 (broadcastInDim S32x4 ![0, 1] bcast_S32x1_S32x4_0_1 : (⟨S32x1, .i32⟩ : BufTy).Contents (Elt F) → (⟨S32x4, .i32⟩ : BufTy).Contents (Elt F)),
   StableHlo.binary main_v6 main_v7 main_v8 (addi : (⟨S32x4, .i32⟩ : BufTy).Contents (Elt F) → (⟨S32x4, .i32⟩ : BufTy).Contents (Elt F) → (⟨S32x4, .i32⟩ : BufTy).Contents (Elt F)),
   StableHlo.reshape main_v8 main_v9 (rfl : (.i32 : EltTy) = .i32) shapeCasts_S32x4_S1x32x1x4,
   StableHlo.unary main_v9 main_v10 (broadcastInDim S1x32x2x4 ![0, 1, 2, 3] bcast_S1x32x1x4_S1x32x2x4_0_1_2_3 : (⟨S1x32x1x4, .i32⟩ : BufTy).Contents (Elt F) → (⟨S1x32x2x4, .i32⟩ : BufTy).Contents (Elt F)),
   StableHlo.reshape main_v10 main_v11 (rfl : (.i32 : EltTy) = .i32) shapeCasts_S1x32x2x4_S32x8,
   StableHlo.reshape main_arg2 main_v12 (rfl : (.f32 : EltTy) = .f32) shapeCasts_S64x4096_S2048x128,
   StableHlo.reshape main_arg3 main_v13 (rfl : (.f32 : EltTy) = .f32) shapeCasts_S64x4096_S2048x128]

/-- The host operations after the call: each batch entry's two rows of the whole width. -/
abbrev opsB : List (HloOp τ sig (Elt F)) :=
  [StableHlo.unary main_v14_0 main_v15 ((transpose S4x32x128 [1, 0, 2] · transposes_S32x4x128_S4x32x128_1_0_2) : (⟨S32x4x128, .f32⟩ : BufTy).Contents (Elt F) → (⟨S4x32x128, .f32⟩ : BufTy).Contents (Elt F)),
   StableHlo.reshape main_v15 main_v16 (rfl : (.f32 : EltTy) = .f32) shapeCasts_S4x32x128_S4x1x4096,
   StableHlo.unary main_v14_1 main_v17 ((transpose S4x32x128 [1, 0, 2] · transposes_S32x4x128_S4x32x128_1_0_2) : (⟨S32x4x128, .f32⟩ : BufTy).Contents (Elt F) → (⟨S4x32x128, .f32⟩ : BufTy).Contents (Elt F)),
   StableHlo.reshape main_v17 main_v18 (rfl : (.f32 : EltTy) = .f32) shapeCasts_S4x32x128_S4x1x4096]

/-- The TensorCore's pipeline, in the signature without the SparseCore's calls. -/
abbrev regionP : Prog (TpuEff nD τ sig (Elt F) (ΛP (F := F)) .tc) PUnit := .op (.customCall (Pipeline.entry 0) ()) fun _ => .ret ⟨⟩

theorem main_eq (d : Dev nD) :
    main (F := F) d = (StableHlo.seq opsA >>= fun _ => ((K (F := F)).run d 0 >>= fun _ =>
      (StableHlo.seq opsB >>= fun _ => SparseCore.liftProg (regionP (F := F))))) := by
  rw [StableHlo.seq_bind_seqK, StableHlo.seq_bind_seqK]; rfl

theorem opsA_sub : ∀ op ∈ opsA (F := F), op.bufs ⊆ ucRefs τ sig := by
  have h : (opsA (F := F)).Forall fun op => op.bufs ⊆ StableHlo.tcRefs τ sig := by simp
  exact fun op ho => Pipeline.sub_ucRefs op (List.forall_iff_forall_mem.mp h op ho)
theorem opsB_sub : ∀ op ∈ opsB (F := F), op.bufs ⊆ ucRefs τ sig := by
  have h : (opsB (F := F)).Forall fun op => op.bufs ⊆ StableHlo.tcRefs τ sig := by simp
  exact fun op ho => Pipeline.sub_ucRefs op (List.forall_iff_forall_mem.mp h op ho)
theorem opsA_fresh : ∀ op ∈ opsA (F := F), op.fresh = ∅ :=
  List.forall_iff_forall_mem.mp (StableHlo.forall_fresh_of_map rfl)
theorem opsB_fresh : ∀ op ∈ opsB (F := F), op.fresh = ∅ :=
  List.forall_iff_forall_mem.mp (StableHlo.forall_fresh_of_map rfl)

/-! ## The contents along the way -/

section Contents

variable (m : (ℓ : Loc nD τ sig) → Buf (Elt F) ℓ)

/-- A device's buffers before the call. -/
def W1 (d : Dev nD) : Valuation τ sig (Elt F) := StableHlo.after opsA fun b => m (d, b)

/-- What the call's arrays hold when it starts. -/
def callIn : CallIn F where
  list d := W1 m d main_v11
  mean d := W1 m d main_v12
  dev d := W1 m d main_v13
  scale d := W1 m d main_v14_0
  offset d := W1 m d main_v14_1

/-- A device's buffers after the call. -/
def W2 (d : Dev nD) : Valuation τ sig (Elt F) :=
  Function.update (Function.update (W1 m d) main_v14_0 (scaleArr (W1 m d main_v11) (W1 m d main_v13)))
    main_v14_1 (offArr (W1 m d main_v11) (W1 m d main_v12) (W1 m d main_v13))

/-- A device's buffers before the pipeline. -/
def W3 (d : Dev nD) : Valuation τ sig (Elt F) := StableHlo.after opsB (W2 m d)

/-- A device's buffers at the end. -/
def W4 (d : Dev nD) : Valuation τ sig (Elt F) :=
  Function.update (W3 m d) main_v19 (rowMod (W3 m d main_arg0) (W3 m d main_v16) (W3 m d main_v18))

/-- The arrays of the call among a device's buffers. -/
def callRefs : Finset (DevRef τ sig) := {(main_v11 : DevRef τ sig), (main_v12 : DevRef τ sig), (main_v13 : DevRef τ sig), (main_v14_0 : DevRef τ sig), (main_v14_1 : DevRef τ sig)}

theorem callRefs_sub : callRefs ⊆ ucRefs τ sig := by
  intro b hb
  simp only [callRefs, Finset.mem_insert, Finset.mem_singleton] at hb
  refine Finset.mem_filter.mpr ?_
  rcases hb with rfl | rfl | rfl | rfl | rfl <;> exact ⟨StableHlo.devRef_mem_tcRefs _, by decide⟩

omit [FloatOps F] in
theorem held_call (d : Dev nD) (V : Valuation τ sig (Elt F)) :
    (StableHlo.held (d.tc : Thread nD τ) callRefs V : sProp 𝕄)
      = arrPts d (V main_v11) (V main_v12) (V main_v13) (V main_v14_0) (V main_v14_1) := by
  unfold StableHlo.held callRefs
  rw [SparseCore.bigSep_insert' (by decide), SparseCore.bigSep_insert' (by decide), SparseCore.bigSep_insert' (by decide),
    SparseCore.bigSep_insert' (by decide), bigSep_singleton]

theorem W2_of_not_call (d : Dev nD) (b : DevRef τ sig) (h0 : b ≠ main_v14_0) (h1 : b ≠ main_v14_1) : W2 m d b = W1 m d b := by
  unfold W2; rw [Function.update_of_ne h1, Function.update_of_ne h0]

theorem held_before (d : Dev nD) :
    (StableHlo.held (d.tc : Thread nD τ) (ucRefs τ sig) (W1 m d) : sProp 𝕄)
      = iprop(arrPts d ((callIn m).list d) ((callIn m).mean d) ((callIn m).dev d) ((callIn m).scale d) ((callIn m).offset d)
          ∗ StableHlo.held (d.tc : Thread nD τ) (ucRefs τ sig \ callRefs) (W1 m d)) := by
  rw [StableHlo.held_sub_split _ callRefs_sub, held_call]; rfl

theorem held_after (d : Dev nD) :
    (StableHlo.held (d.tc : Thread nD τ) (ucRefs τ sig) (W2 m d) : sProp 𝕄)
      = iprop(arrPts d ((callIn m).list d) ((callIn m).mean d) ((callIn m).dev d) (scaleArr ((callIn m).list d) ((callIn m).dev d)) (offArr ((callIn m).list d) ((callIn m).mean d) ((callIn m).dev d))
          ∗ StableHlo.held (d.tc : Thread nD τ) (ucRefs τ sig \ callRefs) (W1 m d)) := by
  rw [StableHlo.held_sub_split _ callRefs_sub, held_call]
  rw [StableHlo.held_congr (d.tc : Thread nD τ) (S := ucRefs τ sig \ callRefs) (V := W2 m d) (V' := W1 m d) fun b hb => W2_of_not_call m d b
    (fun h => (Finset.mem_sdiff.mp hb).2 (by subst h; decide)) (fun h => (Finset.mem_sdiff.mp hb).2 (by subst h; decide))]
  rw [W2_of_not_call m d main_v11 (by decide) (by decide), W2_of_not_call m d main_v12 (by decide) (by decide),
    W2_of_not_call m d main_v13 (by decide) (by decide)]
  rw [show W2 m d main_v14_1 = offArr (W1 m d main_v11) (W1 m d main_v12) (W1 m d main_v13) from Function.update_self ..,
    show W2 m d main_v14_0 = scaleArr (W1 m d main_v11) (W1 m d main_v13) from
      (Function.update_of_ne (by decide) ..).trans (Function.update_self ..)]
  rfl

end Contents

/-! ## The launch's ghost state -/

/-- The handshakes' cells, and the pipeline's staging cells. -/
def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), (1 : Counters)))

/-- What @main's thread is given of the pipeline's cells. -/
abbrev G (d : Dev nD) : sProp 𝕄 :=
  iprop(Pipeline.cellsGhost (Pipeline.pin (pcfgs (F := F)) adm) EP 0 d ∗ Pipeline.toksInit (Pipeline.pin (pcfgs (F := F)) adm) EP 0 d)

theorem hu₀ (C : CallIn F) : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P C).x q thr) := by
  unfold u₀
  iintro Hu
  ihave H := (ownU_pair (initOf (K (F := F)).hsCells (K (F := F)).hsToks) _) $$ Hu
  icases H with ⟨HH, Hr⟩
  ihave H := (own_pair_emb embR _ _) $$ Hr
  icases H with ⟨Hp, -⟩
  imod (Pipeline.fund_ghost (Pipeline.pin (pcfgs (F := F)) adm) EP cellOf_inj) $$ Hp with ⟨Hg, Ht⟩
  imodintro
  isplitl [HH]; · iexact HH
  isplitl [Hg Ht]
  · rw [bigSep_sep']
    isplitl [Hg]
    · iapply (Entails.of_eq (bigSep_congr fun d _ => bigSep_univ_of_subsingleton (0 : Fin 1))) $$ Hg
    · iapply (Entails.of_eq (bigSep_congr fun d _ => bigSep_univ_of_subsingleton (0 : Fin 1))) $$ Ht
  rw [show (bigSep Finset.univ fun thr : Thread nD τ => bigSep Finset.univ fun q : Fin 1 => (P (F := F) C).x q thr) = bigSep Finset.univ fun _ => iprop(emp) from
    bigSep_congr fun _ _ => bigSep_univ_of_subsingleton (0 : Fin 1)]
  iapply (Entails.of_eq (bigSep_emp_const _).symm)
  iempintro

/-! ## @main on the TensorCore -/

variable (m : (ℓ : Loc nD τ sig) → Buf (Elt F) ℓ) (ρ : Dev nD → PrngReg)

/-- What @main's thread holds at the end: its buffers. -/
abbrev FIN (d : Dev nD) : sProp 𝕄 := StableHlo.held (d.tc : Thread nD τ) (ucRefs τ sig) (W4 m d)

/-- The pipeline's region, from the buffers before it to those after it. -/
abbrev regM := reg (F := F) (fun d b => W3 m d b) 8 (fun d b => W4 m d b)
  (fun d => Function.update_self ..)
  (fun d r hr => Function.update_of_ne (fun h => hr (Proc.devRef_injective _ h)) ..)

theorem regM_pre (d : Dev nD) : (regM m).pre d
    = iprop(unscopedBufs d (fun b => W3 m d b) ∗ ∃ W, ⌜(K (F := F)).WBelow (SparseCore.T d) W 8⌝ ∗ owes (SparseCore.T d) (0 : CellTallies nD τ sig (HIx 1)) W) := rfl
theorem regM_post (d : Dev nD) : (regM m).post d
    = iprop(unscopedBufs d (fun b => W4 m d b) ∗ ∃ W, ⌜(K (F := F)).WBelow (SparseCore.T d) W 8⌝ ∗ owes (SparseCore.T d) (0 : CellTallies nD τ sig (HIx 1)) W) := rfl

/-- After the call the core owes nothing, and what it has recorded lies at or below the eighth level. -/
theorem tcSt_one (d : Dev nD) : ∃ R : sProp 𝕄, (K (F := F)).tcSt EH d 1
    = iprop((∃ W, ⌜(K (F := F)).WBelow (SparseCore.T d) W 8⌝ ∗ owes (SparseCore.T d) (0 : CellTallies nD τ sig (HIx 1)) W) ∗ R) :=
  ⟨_, by unfold SparseCore.Cfg.tcSt; rw [(K (F := F)).Otc_end d le_rfl]; rfl⟩

theorem hmain [∀ e, Nonempty (Elt F e)] (κ : GSem nD τ sig → ℕ) (d : Dev nD) :
    iprop((K (F := F)).ctx EH (P (callIn m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = StableHlo.held (d.tc : Thread nD τ) (ucRefs τ sig) (fun b => m (d, b)) from
    unscopedBufs_held d (fun b => m (d, b)), main_eq]
  iintro ⟨#Hctx, Hst, ⟨Hb, Hh, Hts, -⟩, Hg, Ht⟩
  iapply (StableHlo.wp_seq 𝒱 none Set.univ d (ucRefs τ sig) _ opsA opsA_sub opsA_fresh (fun b => m (d, b))) $$ [Hb Hh]
  · isplitl [Hb] <;> iassumption
  iintro ⟨Hb, Hh⟩
  rw [wp_bind]
  ihave Hh := (Entails.of_eq (held_before m d)) $$ [Hh]
  · iexact Hh
  icases Hh with ⟨Ha, Hr⟩
  iapply ((K (F := F)).wp_run (D (F := F)) 𝒱 (EH := EH) (P := P (callIn m)) κ d 0) $$ [Hst Ha Hr Hb Hts Hg Ht]
  isplitr; · iexact Hctx
  isplitl [Hst]; · iexact Hst
  isplitl [Ha]; · iapply (Entails.of_eq (st_eq (callIn m) d).symm) $$ Ha
  iintro ⟨Hst, Ha⟩
  ihave Ha := (Entails.of_eq (dn_eq (callIn m) d)) $$ Ha
  ihave Hh := (Entails.of_eq (held_after m d).symm) $$ [Ha Hr]
  · isplitl [Ha] <;> iassumption
  iapply (StableHlo.wp_seq 𝒱 none Set.univ d (ucRefs τ sig) _ opsB opsB_sub opsB_fresh (W2 m d)) $$ [Hb Hh]
  · isplitl [Hb] <;> iassumption
  iintro ⟨Hb, Hh⟩
  ihave Hlev := (SparseCore.Cfg.ctx_levAts κ) $$ Hctx
  iapply ((K (F := F)).wp_liftProg (D (F := F)) 𝒱 _ _ _ _ _)
  obtain ⟨R, hR⟩ := tcSt_one (F := F) d
  ihave Hst := (Entails.of_eq hR) $$ [Hst]
  · iexact Hst
  icases Hst with ⟨Ho, Hrest⟩
  iapply (Pipeline.RegionSeg.wp (pcfgs (F := F)) adm _ (none : HIx 1) cellOf_inj EP defs₀ 𝒱₀ _ _ (regM m) d none (fun _ h => nomatch h) _ _)
  isplitl [Hrest Hts]
  · iintro ⟨Hb, Hp⟩
    ihave Hp := (Entails.of_eq (regM_post m d)) $$ Hp
    icases Hp with ⟨Hh, Ho⟩
    rw [wp_ret]
    imodintro
    isplitl [Ho Hrest]
    · iapply (Entails.of_eq hR.symm)
      isplitl [Ho] <;> iassumption
    isplitl [Hh]
    · iapply (Entails.of_eq (unscopedBufs_held d (W4 m d))) $$ Hh
    isplitl [Hb] <;> iassumption
  isplitl [Hb]; · iexact Hb
  isplitl [Hh Ho]
  · iapply (Entails.of_eq (regM_pre m d).symm)
    isplitl [Hh]
    · iapply (Entails.of_eq (unscopedBufs_held d (W3 m d)).symm) $$ [Hh]
      iexact Hh
    iexact Ho
  isplitl [Hlev]; · iexact Hlev
  isplitl [Hg] <;> iassumption

/-! ## What the memory holds at the end -/

omit [FloatOps F] in
/-- A buffer held among others reads in memory as it is held. -/
theorem held_agree (d : Dev nD) (S : Finset (DevRef τ sig)) (V : Valuation τ sig (Elt F)) (b : DevRef τ sig) (hb : b ∈ S) (s' : Phys nD τ sig (Elt F)) :
    iprop(StableHlo.held (d.tc : Thread nD τ) S V ∗ SI s') ⊢ (⌜s'.mem.mem (d, b) = V b⌝ : sProp 𝕄) := by
  rw [StableHlo.held_sub_split _ (Finset.singleton_subset_iff.mpr hb)]
  unfold StableHlo.held
  rw [bigSep_singleton]
  iintro ⟨⟨Hb, -⟩, HSI⟩
  ihave H := (SI_pointsTo_agree (st := s') (ℓ := ((d, b) : Loc nD τ sig)) (I := Finset.univ) (q := fullShare) (f := V b)) $$ [HSI Hb]
  · isplitl [HSI] <;> iassumption
  icases H with %h
  ipureintro; exact funext fun i => h i (Finset.mem_univ i)

/-- Every buffer of the TensorCore that no core owns reads as at the end of the run. -/
def fq (d : Dev nD) (s' : Phys nD τ sig (Elt F)) : Prop := ∀ b ∈ ucRefs τ sig, s'.mem.mem (d, b) = W4 m d b

theorem hfin (d : Dev nD) (s' : Phys nD τ sig (Elt F)) : iprop(FIN m d ∗ SI s') ⊢ (⌜fq m d s'⌝ : sProp 𝕄) :=
  (forall_intro fun b => (forall_intro fun hb => held_agree d (ucRefs τ sig) (W4 m d) b hb s').trans pure_forall.2).trans pure_forall.2

/-- The end of the run: the buffers as computed, and every counter at zero. -/
def QC : PUnit × MemSt nD τ sig (Elt F) → Prop := fun r => (∀ d : Dev nD, ∀ b ∈ ucRefs τ sig, r.2.mem (d, b) = W4 m d b) ∧ r.2.sem = fun _ => 0

theorem run_main [∀ e, Nonempty (Elt F e)] (hI : ∀ d, InRows d ((callIn m).list d)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (callIn m)) (A := ∅) facts v₀
    (fun q hq => match q with | 0 => nomatch hq)
    (fun q _ => match q with | 0 => tileObl (callIn m) hI)
    (fun q _ => match q with | 0 => SparseCore.Cfg.VecSplit.of_plain (vecSplit (callIn m)))
    m ρ main (fun d => G d) (FIN m) (u₀ (F := F)) (sep_elim_left.trans (hu₀ (callIn m))) (hmain m ρ) (fq m) (hfin m) (QC m) (fun _ h hz => ⟨h, hz⟩)

end Cert.Proof.Modulate

end
-- ==== Proof.Host.lean ====
/-
  The kernel's host operations read element by element: which table row each word of the index list names, and which
  element of a table each element of the two whole-width rows comes from; and so the program's result.
-/
module

public import proofs.«01_k».proof.Proof.Main
public import Idealize.ShloMosaic.Lib.Pipeline.Value
public import Idealize.ShloMosaic.Lib.IdealHost
public import Idealize.ShloMosaic.Lib.Pointwise.Index

@[expose] public section

set_option maxRecDepth 16384

noncomputable section

namespace Cert.Proof.Modulate

open Cert.KernelIdeal Cert.KernelIdeal.Gen

open Idealize.ShloMosaic Idealize.ShloMosaic.TcCoe
open Idealize.SL.Sem

variable {F : FTy → Type} [FloatOps F]
variable (m : (ℓ : Loc nD τ sig) → Buf (Elt F) ℓ) (d : Dev nD)

/-- The launch contents of a device's arguments. -/
abbrev xIn : S4x4096x4096.Idx → Elt F .f32 := m (d, Proc.devRef .tc main_arg0)
abbrev idsIn : S4x1.Idx → BitVec 32 := m (d, Proc.devRef .tc main_arg1)
abbrev meanIn : S64x4096.Idx → Elt F .f32 := m (d, Proc.devRef .tc main_arg2)
abbrev devIn : S64x4096.Idx → Elt F .f32 := m (d, Proc.devRef .tc main_arg3)

/-- Every context number is a row of the context tables. -/
def IdsOk (ids : S4x1.Idx → BitVec 32) : Prop := ∀ j, (ids j).toNat < 64

/-! ## What the operations leave -/

theorem W1_list : W1 m d main_v11 = shapeCast S32x8 (broadcastInDim S1x32x2x4 ![0, 1, 2, 3] bcast_S1x32x1x4_S1x32x2x4_0_1_2_3
    (shapeCast S1x32x1x4 (addi (broadcastInDim S32x4 ![0, 1] bcast_S1x4_S32x4_0_1
        (muli (broadcastInDim S1x4 ![1] bcast_S4_S1x4_1 (shapeCast S4 (idsIn m d) shapeCasts_S4x1_S4))
          (broadcastInDim S1x4 ![] bcast_S_S1x4 (constantI S_ 32 32#32))))
      (broadcastInDim S32x4 ![0, 1] bcast_S32x1_S32x4_0_1 (broadcastInDim S32x1 ![0] bcast_S32_S32x1_0 (iotaInDim S32 32 0))))
      shapeCasts_S32x4_S1x32x1x4)) shapeCasts_S1x32x2x4_S32x8 := by
  unfold W1
  after_results
  rfl

theorem W1_mean : W1 m d main_v12 = shapeCast S2048x128 (meanIn m d) shapeCasts_S64x4096_S2048x128 := by
  unfold W1
  after_results
  rfl

theorem W1_dev : W1 m d main_v13 = shapeCast S2048x128 (devIn m d) shapeCasts_S64x4096_S2048x128 := by
  unfold W1
  after_results
  rfl

theorem W3_scale : W3 m d main_v16 = shapeCast S4x1x4096 (transpose S4x32x128 [1, 0, 2] (scaleArr (W1 m d main_v11) (W1 m d main_v13))
    transposes_S32x4x128_S4x32x128_1_0_2) shapeCasts_S4x32x128_S4x1x4096 := by
  unfold W3
  after_results
  rw [show W2 m d main_v14_0 = scaleArr (W1 m d main_v11) (W1 m d main_v13) from
      (Function.update_of_ne (by decide) ..).trans (Function.update_self ..)]
  rfl

theorem W3_offset : W3 m d main_v18 = shapeCast S4x1x4096 (transpose S4x32x128 [1, 0, 2] (offArr (W1 m d main_v11) (W1 m d main_v12) (W1 m d main_v13))
    transposes_S32x4x128_S4x32x128_1_0_2) shapeCasts_S4x32x128_S4x1x4096 := by
  unfold W3
  after_results
  rw [show W2 m d main_v14_1 = offArr (W1 m d main_v11) (W1 m d main_v12) (W1 m d main_v13) from Function.update_self ..]
  rfl

/-- An argument is written by no operation. -/
theorem W4_arg (r : Ref sig .tc) (hr : r = main_arg0 ∨ r = main_arg1 ∨ r = main_arg2 ∨ r = main_arg3) :
    W4 m d r = m (d, Proc.devRef .tc r) := by
  have e3 : W3 m d r = W2 m d r := by
    unfold W3
    rcases hr with rfl | rfl | rfl | rfl <;> after_results
  have e1 : W1 m d r = m (d, Proc.devRef .tc r) := by
    unfold W1
    rcases hr with rfl | rfl | rfl | rfl <;> after_results
  have e2 : W2 m d r = W1 m d r := by
    rcases hr with rfl | rfl | rfl | rfl <;> exact W2_of_not_call m d _ (by decide) (by decide)
  have e4 : W4 m d r = W3 m d r := by
    unfold W4
    rcases hr with rfl | rfl | rfl | rfl <;> exact Function.update_of_ne (by decide) ..
  rw [e4, e3, e2, e1]

theorem W3_x : W3 m d main_arg0 = xIn m d := by
  have h : W4 m d main_arg0 = W3 m d main_arg0 := Function.update_of_ne (by decide) ..
  exact h.symm.trans (W4_arg m d main_arg0 (Or.inl rfl))

/-! ## Element by element -/

/-- The word of the index list for width block `w` and batch entry `b`. -/
theorem list_word (ids : S4x1.Idx → BitVec 32) (w : Fin 32) (k : Fin 8) (b : Fin 4) (hb : b.val = k.val % 4) :
    shapeCast S32x8 (broadcastInDim S1x32x2x4 ![0, 1, 2, 3] bcast_S1x32x1x4_S1x32x2x4_0_1_2_3
    (shapeCast S1x32x1x4 (addi (broadcastInDim S32x4 ![0, 1] bcast_S1x4_S32x4_0_1
        (muli (broadcastInDim S1x4 ![1] bcast_S4_S1x4_1 (shapeCast S4 ids shapeCasts_S4x1_S4))
          (broadcastInDim S1x4 ![] bcast_S_S1x4 (constantI S_ 32 32#32))))
      (broadcastInDim S32x4 ![0, 1] bcast_S32x1_S32x4_0_1 (broadcastInDim S32x1 ![0] bcast_S32_S32x1_0 (iotaInDim S32 32 0))))
      shapeCasts_S32x4_S1x32x1x4)) shapeCasts_S1x32x2x4_S32x8 (ix2 w k)
      = IntOp.addi (IntOp.muli (ids (ix2 b (0 : Fin 1))) 32#32) (BitVec.ofNat 32 w.val) := by
  refine (shapeCast_apply _ _ _ (ix4 (0 : Fin 1) w (⟨k.val / 4, by omega⟩ : Fin 2) b) ?_).trans ?_
  · rw [Shape.rowMajor_val_four, Shape.rowMajor_val_two]
    show ((0 * 32 + w.val) * 2 + k.val / 4) * 4 + b.val = w.val * 8 + k.val
    omega
  refine (broadcastInDim_apply _ _ _ _ (ix4 (0 : Fin 1) w (0 : Fin 1) b) ?_).trans ?_
  · intro a; fin_cases a <;> rfl
  refine (shapeCast_apply _ _ _ (ix2 w b) ?_).trans ?_
  · rw [Shape.rowMajor_val_four, Shape.rowMajor_val_two]
    show w.val * 4 + b.val = ((0 * 32 + w.val) * 1 + 0) * 4 + b.val
    omega
  refine congrArg₂ IntOp.addi ?_ ?_
  · refine (broadcastInDim_apply _ _ _ _ (ix2 (0 : Fin 1) b) ?_).trans ?_
    · intro a; fin_cases a <;> rfl
    refine congrArg₂ IntOp.muli ?_ ?_
    · refine (broadcastInDim_apply _ _ _ _ (ix1 b) ?_).trans ?_
      · intro a; fin_cases a; rfl
      refine (shapeCast_apply _ _ _ (ix2 b (0 : Fin 1)) ?_)
      rw [Shape.rowMajor_val_one, Shape.rowMajor_val_two]
      show b.val * 1 + 0 = b.val
      omega
    · rfl
  · refine (broadcastInDim_apply _ _ _ _ (ix2 w (0 : Fin 1)) ?_).trans ?_
    · intro a; fin_cases a <;> rfl
    refine (broadcastInDim_apply _ _ _ _ (ix1 w) ?_).trans ?_
    · intro a; fin_cases a; rfl
    rfl

theorem word_toNat (v : BitVec 32) (hv : v.toNat < 64) (w : Fin 32) :
    (IntOp.addi (IntOp.muli v 32#32) (BitVec.ofNat 32 w.val)).toNat = v.toNat * 32 + w.val := by
  show (v * 32#32 + BitVec.ofNat 32 w.val).toNat = _
  rw [BitVec.toNat_add, BitVec.toNat_mul, BitVec.toNat_ofNat, BitVec.toNat_ofNat]
  have := w.isLt
  omega

variable (hids : IdsOk (idsIn m d))
include hids

theorem list_toNat (w : Fin 32) (k : Fin 8) (b : Fin 4) (hb : b.val = k.val % 4) :
    (W1 m d main_v11 (ix2 w k) : BitVec 32).toNat = (idsIn m d (ix2 b (0 : Fin 1))).toNat * 32 + w.val := by
  rw [W1_list]
  exact (congrArg BitVec.toNat (list_word (idsIn m d) w k b hb)).trans (word_toNat _ (hids _) w)

theorem inRows : InRows d (W1 m d main_v11) := fun j => by
  rw [eq_ix2 j, list_toNat m d hids (j 0) (j 1) ⟨(j 1).val % 4, Nat.mod_lt _ (by decide)⟩ rfl]
  have h := hids (ix2 (⟨(j 1).val % 4, Nat.mod_lt _ (by decide)⟩ : Fin 4) (0 : Fin 1))
  have hw : (j 0).val < 32 := (j 0).isLt
  omega

/-- The table row for width block `w` of batch entry `b`. -/
theorem tblRow_val (w : Fin 32) (b : Fin 4) : (tblRow (W1 m d main_v11) w b).val = (idsIn m d (ix2 b (0 : Fin 1))).toNat * 32 + w.val := by
  unfold tblRow
  show (W1 m d main_v11 _ : BitVec 32).toNat % 2048 = _
  rw [list_toNat m d hids w _ b (by show b.val = b.val % 4; omega)]
  have h := hids (ix2 b (0 : Fin 1))
  have hw := w.isLt
  omega

/-- A row of a table in blocks of the width, gathered for `(w, b)`, read at lane `l`: the table's row for batch entry
    `b`'s context, at column `w * 128 + l`. -/
theorem tbl_at {α : Type} (tbl : S64x4096.Idx → α) (b : Fin 4) (c : Fin 4096) :
    shapeCast S2048x128 tbl shapeCasts_S64x4096_S2048x128
        (ix2 (tblRow (W1 m d main_v11) (⟨c.val / 128, by omega⟩ : Fin 32) b) (⟨c.val % 128, Nat.mod_lt _ (by decide)⟩ : Fin 128))
      = tbl (ix2 (⟨(idsIn m d (ix2 b (0 : Fin 1))).toNat, hids _⟩ : Fin 64) c) := by
  refine shapeCast_apply _ _ _ _ ?_
  rw [Shape.rowMajor_val_two, Shape.rowMajor_val_two]
  show (idsIn m d (ix2 b (0 : Fin 1))).toNat * 4096 + c.val = (tblRow (W1 m d main_v11) _ b).val * 128 + c.val % 128
  rw [tblRow_val m d hids]
  show _ = (_ * 32 + c.val / 128) * 128 + c.val % 128
  omega

omit hids in
/-- A result of the call, laid out as whole-width rows. -/
theorem rows_at {α : Type} (a : S32x4x128.Idx → α) (b : Fin 4) (c : Fin 4096) :
    shapeCast S4x1x4096 (transpose S4x32x128 [1, 0, 2] a transposes_S32x4x128_S4x32x128_1_0_2) shapeCasts_S4x32x128_S4x1x4096 (ix3 b (0 : Fin 1) c)
      = a (ix3 (⟨c.val / 128, by omega⟩ : Fin 32) b (⟨c.val % 128, Nat.mod_lt _ (by decide)⟩ : Fin 128)) := by
  refine (shapeCast_apply _ _ _ (ix3 b (⟨c.val / 128, by omega⟩ : Fin 32) (⟨c.val % 128, Nat.mod_lt _ (by decide)⟩ : Fin 128)) ?_).trans ?_
  · rw [Shape.rowMajor_val_three, Shape.rowMajor_val_three]
    show (b.val * 32 + c.val / 128) * 128 + c.val % 128 = (b.val * 1 + 0) * 4096 + c.val
    omega
  · refine transpose_apply _ _ _ _ _ ?_
    intro a; fin_cases a <;> rfl

/-- The program's result at one element, from the arguments. -/
theorem result_at (b : Fin 4) (r c : Fin 4096) :
    W4 m d main_v19 (ix3 b r c)
      = FloatOps.addf (FloatOps.mulf (xIn m d (ix3 b r c)) (scl (devIn m d (ix2 (⟨(idsIn m d (ix2 b (0 : Fin 1))).toNat, hids _⟩ : Fin 64) c))))
          (off (meanIn m d (ix2 (⟨(idsIn m d (ix2 b (0 : Fin 1))).toNat, hids _⟩ : Fin 64) c))
            (devIn m d (ix2 (⟨(idsIn m d (ix2 b (0 : Fin 1))).toNat, hids _⟩ : Fin 64) c))) := by
  rw [show W4 m d main_v19 = rowMod (W3 m d main_arg0) (W3 m d main_v16) (W3 m d main_v18) from Function.update_self .., W3_x, W3_scale, W3_offset]
  unfold rowMod
  refine congrArg₂ FloatOps.addf (congrArg (FloatOps.mulf _) ?_) ?_
  · refine (rows_at _ b c).trans ?_
    unfold scaleArr
    rw [W1_dev]
    exact congrArg scl (tbl_at m d hids (devIn m d) b c)
  · refine (rows_at _ b c).trans ?_
    unfold offArr
    rw [W1_dev, W1_mean]
    exact congrArg₂ off (tbl_at m d hids (meanIn m d) b c) (tbl_at m d hids (devIn m d) b c)

end Cert.Proof.Modulate

end
-- ==== Proof.Frames.lean ====
/-
  The kernel's runs as the claims state them: at any floats, the result computed and the arguments unchanged with
  every counter at zero; and what the precondition says of the context numbers.
-/
module

public import proofs.«01_k».proof.Proof.Host
public import Idealize.ShloMosaic.Lib.ReduceAll
public import proofs.«01_k».proof.Proof.Gen.Kernel
public import proofs.«01_k».proof.Proof.Gen.Pre_ids_in_range

@[expose] public section

set_option maxRecDepth 16384

noncomputable section

namespace Cert.Proof.Modulate

open Cert.KernelIdeal Cert.KernelIdeal.Gen

open Idealize.ShloMosaic Idealize.ShloMosaic.TcCoe
open Idealize.SL.Sem

variable {F : FTy → Type} [FloatOps F]

/-- A word that tests as at least zero and below sixty-four, signed, is below sixty-four. -/
theorem word_lt (v : BitVec 32) (e : IntOp.andi (IntOp.cmpi .sge v 0#32) (IntOp.cmpi .slt v 64#32) = 1#1) : v.toNat < 64 := by
  obtain ⟨e1, e2⟩ := IntOp.andi_eq_one.1 e
  have one_iff (p : Bool) : (BitVec.ofBool p = 1#1) ↔ p = true := by cases p <;> decide
  simp only [IntOp.cmpi, one_iff, BitVec.sle_eq_decide, BitVec.slt_eq_decide, decide_eq_true_eq, BitVec.toInt_eq_toNat_cond,
    BitVec.toNat_ofNat, Nat.reducePow, Nat.reduceMod] at e1 e2
  omega

instance : Subsingleton Cert.Pre_ids_in_range.S_.Idx := ⟨fun a b => funext fun i => i.elim0⟩

/-- The precondition's test, all ones, puts every context number among the tables' rows. -/
theorem idsOk_of_test [Cert.Pre_ids_in_range.Facts] (x : S4x4096x4096.Idx → F .f32) (ids : S4x1.Idx → BitVec 32) (a b : S64x4096.Idx → F .f32)
    (h : Cert.Pre_ids_in_range.fn (F := F) x ids a b = fun _ => 1#1) : IdsOk ids := by
  intro j
  have e := congrFun h ix0
  dsimp only [Cert.Pre_ids_in_range.fn] at e
  exact word_lt _ (Host.reduce_andi_all _ _ _ _ _ e j)

theorem mem_ucRefs (r : Ref sig .tc) (hr : (Proc.devRef (τ := τ) .tc r).isScoped = false) : Proc.devRef (τ := τ) .tc r ∈ Pipeline.ucRefs τ sig :=
  Finset.mem_filter.mpr ⟨StableHlo.devRef_mem_tcRefs r, by rw [hr]; decide⟩

/-- The whole program from context numbers in range: its result and its arguments at the end, and the counters. -/
theorem run_kernel [∀ e, Nonempty (Elt F e)] (m : (ℓ : Loc nD τ sig) → Buf (Elt F) ℓ) (ρ : Dev nD → PrngReg) (hids : ∀ d, IdsOk (idsIn m d)) :
    θ_run (Cert.KernelIdeal.defs (F := F)) (Cert.KernelIdeal.threads (F := F)) ⟨m, fun _ => 0, ρ⟩ (fun r => (∀ c : Dev nD,
      r.2.mem ((c : Thread nD τ).loc main_v19) = W4 m c main_v19
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) :=
  (θ_run Cert.KernelIdeal.defs _ _).mono (fun _ h => ⟨fun c => ⟨h.1 c _ (mem_ucRefs main_v19 (by decide)),
      (h.1 c _ (mem_ucRefs main_arg0 (by decide))).trans (W4_arg m c main_arg0 (by decide)),
      (h.1 c _ (mem_ucRefs main_arg1 (by decide))).trans (W4_arg m c main_arg1 (by decide)),
      (h.1 c _ (mem_ucRefs main_arg2 (by decide))).trans (W4_arg m c main_arg2 (by decide)),
      (h.1 c _ (mem_ucRefs main_arg3 (by decide))).trans (W4_arg m c main_arg3 (by decide))⟩, h.2⟩)
    (run_main m ρ fun d => inRows m d (hids d))

theorem frame_kernelIdeal : Cert.quiescent_KernelIdeal (hPre_ids_in_range := Cert.Pre_ids_in_range.Gen.facts) := fun m ρ hpre =>
  (θ_run Cert.KernelIdeal.defs _ _).mono (fun _ h => ⟨fun c => (h.1 c).2, h.2⟩) (run_kernel (F := Ideal) m ρ fun d => idsOk_of_test _ _ _ _ (hpre d))

/-- The kernel's bodies are those of its idealized print, which replaces nothing. -/
theorem bodies_eq : Cert.Kernel.defs₀ (F := F) = Cert.KernelIdeal.defs₀ (F := F) := by
  funext p ℓ a
  obtain ⟨ℓ, hℓ⟩ := ℓ
  match p, ℓ, hℓ, a with
  | .tc, 0, _, _ => rfl
  | .tc, 1, _, (t, s) => rfl
  | .scScalar c, 0, _, _ => rfl
  | .scScalar c, 1, _, _ => rfl
  | .scVector c s, 0, _, _ => rfl
  | .scVector c s, 1, _, _ => rfl

theorem defs_eq : Cert.Kernel.defs (F := F) = Cert.KernelIdeal.defs (F := F) :=
  congrArg (fun D₀ => (sc (F := F)).defs (Pipeline.defs pcfgs D₀)) bodies_eq

theorem frame_kernel : Cert.quiescent_Kernel (hKernel := Cert.Kernel.Gen.facts) (hPre_ids_in_range := Cert.Pre_ids_in_range.Gen.facts) := by
  intro m ρ hpre
  rw [defs_eq]
  exact (θ_run Cert.KernelIdeal.defs _ _).mono (fun _ h => ⟨fun c => (h.1 c).2, h.2⟩) (run_kernel (F := Bits) m ρ fun d => idsOk_of_test _ _ _ _ (hpre d))

end Cert.Proof.Modulate

end
-- ==== Proof.Ref.lean ====
/-
  The reference's run and its result read element by element, from context numbers in range: each table look-up reads
  the row its context number names, and its fill value is never taken.
-/
module

public import proofs.«01_k».proof.Proof.Frames
public import proofs.«01_k».proof.Proof.Gen.ReferenceIdeal.Run
public import proofs.«01_k».proof.Proof.Gen.ReferenceIdeal.Read
public import Idealize.ShloMosaic.Lib.Routing.Ops

@[expose] public section

set_option maxRecDepth 16384

noncomputable section

namespace Cert.Proof.Modulate

open Cert.ReferenceIdeal Cert.ReferenceIdeal.Gen Cert.ReferenceIdeal.Read

open Idealize.ShloMosaic Idealize.ShloMosaic.TcCoe
open Idealize.SL.Sem

theorem frame_reference : Cert.quiescent_ReferenceIdeal (hPre_ids_in_range := Cert.Pre_ids_in_range.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

variable {F : FTy → Type} [FloatOps F]
variable (ids : S4x1.Idx → BitVec 32) (hids : IdsOk ids)

/-- A word below sixty-four tests as not negative, as at least zero and as at most sixty-three. -/
theorem word_tests (v : BitVec 32) (hv : v.toNat < 64) :
    IntOp.cmpi .slt v 0#32 = 0#1 ∧ IntOp.cmpi .sge v 0#32 = 1#1 ∧ IntOp.cmpi .sle v 63#32 = 1#1 := by
  have one_iff (p : Bool) : (BitVec.ofBool p = 1#1) ↔ p = true := by cases p <;> decide
  have zero_iff (p : Bool) : (BitVec.ofBool p = 0#1) ↔ ¬ p = true := by cases p <;> decide
  simp only [IntOp.cmpi, one_iff, zero_iff, BitVec.sle_eq_decide, BitVec.slt_eq_decide, decide_eq_true_eq, BitVec.toInt_eq_toNat_cond,
    BitVec.toNat_ofNat, Nat.reducePow, Nat.reduceMod]
  omega

include hids in
/-- The row number a look-up uses is the context number. -/
theorem lookup_row (j : S4x1.Idx) : val_main_call0_v5 (F := F) ids j = ids j := by
  have e : idx_main_v0 (idx_main_call0_v5 j) = j := by
    funext a
    refine Fin.ext ?_
    match a with
    | ⟨0, _⟩ => exact Nat.div_one _
    | ⟨1, _⟩ => exact (Nat.lt_one_iff.1 (j 1).isLt).symm
  rw [val_main_call0_v5_apply, val_main_call0_v4_apply, val_main_call0_v1_apply, val_main_call0_v0_apply, val_main_call0_c_apply,
    val_main_v0_apply, e, (word_tests (ids j) (hids j)).1]
  rfl

include hids in
/-- Every look-up is of a row of the table. -/
theorem lookup_mask (i : S4.Idx) : val_main_call0_v12 (F := F) ids i = 1#1 := by
  unfold val_main_call0_v12
  refine Host.reduce_andi_one _ _ _ _ i rfl fun j => ?_
  rw [val_main_call0_v11_apply, val_main_call0_v7_apply, val_main_call0_v10_apply, lookup_row ids hids, val_main_call0_v6_apply,
    val_main_call0_c_2_apply, val_main_call0_v9_apply, val_main_call0_v8_apply, val_main_call0_c_1_apply]
  exact IntOp.andi_eq_one.2 (word_tests (ids j) (hids j)).2

/-- A look-up reads the row its context number names. -/
theorem lookup_at (tbl : S64x4096.Idx → F .f32) (b : Fin 4) (c : Fin 4096) :
    val_main_v1 (F := F) ids tbl (ix2 b c) = tbl (ix2 (⟨(ids (ix2 b (0 : Fin 1))).toNat, hids _⟩ : Fin 64) c) := by
  rw [val_main_v1_apply, val_main_call0_v14_apply, lookup_mask ids hids]
  refine Eq.trans (b := val_main_call0_v13 (F := F) ids tbl (ix2 b c)) rfl ?_
  unfold val_main_call0_v13
  refine Routing.gather_row gather_S64x4096_S4x1_S4x4096_1_0_n_n_0_1_14096 rfl rfl rfl rfl rfl tbl _ b c _ ?_ (by decide)
  rw [lookup_row ids hids]
  exact (by simp : ids (ix2 b (0 : Fin 1)) = BitVec.ofNat 32 (ids (ix2 b (0 : Fin 1))).toNat)

/-- The reference's result at an element. -/
theorem reference_at (x : S4x4096x4096.Idx → F .f32) (mean dev : S64x4096.Idx → F .f32) (b : Fin 4) (r c : Fin 4096) :
    val_main_v11 (F := F) x ids mean dev (ix3 b r c)
      = FloatOps.hostDivf (FloatOps.subf (x (ix3 b r c)) (mean (ix2 (⟨(ids (ix2 b (0 : Fin 1))).toNat, hids _⟩ : Fin 64) c)))
          (FloatOps.addf (FloatOps.hostUnary .exp (dev (ix2 (⟨(ids (ix2 b (0 : Fin 1))).toNat, hids _⟩ : Fin 64) c)))
            (FloatOps.ofBits .f32 0x3A83126F#32)) := by
  have e : ∀ i : S4x4096.Idx, i = ix2 b c → val_main_v1 (F := F) ids mean i = mean (ix2 (⟨(ids (ix2 b (0 : Fin 1))).toNat, hids _⟩ : Fin 64) c)
      ∧ val_main_v2 (F := F) ids dev i = dev (ix2 (⟨(ids (ix2 b (0 : Fin 1))).toNat, hids _⟩ : Fin 64) c) := by
    rintro _ rfl
    exact ⟨lookup_at ids hids mean b c, lookup_at ids hids dev b c⟩
  have i6 : idx_main_v4 (idx_main_v6 (ix3 b r c)) = ix2 b c := by
    funext a
    match a with
    | ⟨0, _⟩ => rfl
    | ⟨1, _⟩ => rfl
  have i10 : idx_main_v5 (idx_main_v10 (ix3 b r c)) = ix2 b c := by
    funext a
    match a with
    | ⟨0, _⟩ => rfl
    | ⟨1, _⟩ => rfl
  rw [val_main_v11_apply, val_main_v7_apply, val_main_v6_apply, val_main_v4_apply, (e _ i6).1, val_main_v10_apply, val_main_v9_apply,
    val_main_v5_apply, val_main_v3_apply, (e _ i10).2, val_main_v8_apply, val_main_cst_apply]

end Cert.Proof.Modulate

end
-- ==== Proof.Algebra.lean ====
/-
  The value claim: over the extended reals the kernel's multiply-and-add by the reciprocal is the reference's division.
  The divisor is a positive number or plus infinity, so its reciprocal is a finite number at least zero, and
  multiplication by such a number distributes over every sum of extended reals.
-/
module

public import proofs.«01_k».proof.Proof.Ref

@[expose] public section

noncomputable section

namespace Cert.Proof.Modulate

open Idealize.ShloMosaic Idealize.ShloMosaic.TcCoe
open Idealize.SL.Sem

/-- The small constant both programs add to a deviation, as the number it denotes. -/
def eps : ℝ := 8589935 * (2 : ℝ) ^ (-33 : ℤ)

theorem eps_pos : 0 < eps := by unfold eps; positivity

theorem eps_bits : (FloatOps.ofBits .f32 0x3A83126F#32 : Ideal .f32) = (eps : EReal) := by
  have hs : (0x3A83126F#32 : BitVec 32).extractLsb' (8 + 23) 1 = 0#1 := by decide
  have hx : ((0x3A83126F#32 : BitVec 32).extractLsb' 23 8).toNat = 117 := by decide
  have hf : ((0x3A83126F#32 : BitVec 32).extractLsb' 0 23).toNat = 201327 := by decide
  show Ideal.ieee 8 23 0x3A83126F#32 = _
  unfold Ideal.ieee eps
  simp only [hs, hx, hf]
  norm_num

theorem one_bits : (FloatOps.ofBits .f32 0x3F800000#32 : Ideal .f32) = (1 : EReal) := by
  have hs : (0x3F800000#32 : BitVec 32).extractLsb' (8 + 23) 1 = 0#1 := by decide
  have hx : ((0x3F800000#32 : BitVec 32).extractLsb' 23 8).toNat = 127 := by decide
  have hf : ((0x3F800000#32 : BitVec 32).extractLsb' 0 23).toNat = 0 := by decide
  show Ideal.ieee 8 23 0x3F800000#32 = _
  unfold Ideal.ieee
  simp only [hs, hx, hf]
  norm_num

theorem zero_bits : (FloatOps.ofBits .f32 0#32 : Ideal .f32) = (0 : EReal) := by
  show Ideal.ieee 8 23 0#32 = _
  unfold Ideal.ieee
  norm_num

theorem exp_nonneg (s : EReal) : 0 ≤ Ideal.exp s := by
  induction s with
  | bot => exact le_rfl
  | top => exact le_top
  | coe r => exact EReal.coe_nonneg.2 (Real.exp_pos r).le

/-- A product with a finite number at least zero distributes over a difference. -/
theorem mul_distrib (x m y : EReal) (h0 : 0 ≤ y) (ht : y ≠ ⊤) : x * y + (0 - m) * y = (x - m) * y := by
  rw [sub_eq_add_neg x m, zero_sub, EReal.right_distrib_of_nonneg_of_ne_top h0 ht]

/-- Multiply and add by the reciprocal, against subtract and divide. -/
theorem modulate_eq (x m e : EReal) (he : 0 < e) :
    x * Ideal.div 1 e + (0 - m) * Ideal.div 1 e = Ideal.div (x - m) e := by
  unfold Ideal.div
  rw [if_neg he.ne', if_neg he.ne', one_mul]
  exact mul_distrib x m _ (EReal.inv_nonneg_of_nonneg he.le) (EReal.inv_lt_top e).ne

/-- What the kernel computes at an element, against what the reference computes from the same three numbers. -/
theorem element_eq (x mean dev : Ideal .f32) :
    FloatOps.addf (FloatOps.mulf x (scl dev)) (off mean dev)
      = FloatOps.hostDivf (FloatOps.subf x mean) (FloatOps.addf (FloatOps.hostUnary .exp dev) (FloatOps.ofBits .f32 0x3A83126F#32)) := by
  have he : (0 : EReal) < Ideal.exp dev + (eps : EReal) :=
    lt_of_lt_of_le (EReal.coe_pos.2 eps_pos) (le_add_of_nonneg_left (exp_nonneg dev))
  have h := modulate_eq x mean _ he
  rw [← eps_bits, ← one_bits, ← zero_bits] at h
  exact h

/-- The two programs' results are equal: from the same arguments, with every context number in range. -/
theorem results_eq (m : (ℓ : Loc Cert.KernelIdeal.nD Cert.KernelIdeal.τ Cert.KernelIdeal.sig) → Buf (Elt Ideal) ℓ) (d : Dev Cert.KernelIdeal.nD)
    (hids : IdsOk (idsIn m d)) :
    Cert.ReferenceIdeal.Read.val_main_v11 (F := Ideal) (xIn m d) (idsIn m d) (meanIn m d) (devIn m d) = W4 m d Cert.KernelIdeal.main_v19 := by
  funext j
  rw [eq_ix3 j]
  exact ((reference_at (idsIn m d) hids (xIn m d) (meanIn m d) (devIn m d) _ _ _).trans (element_eq _ _ _).symm).trans
    (result_at m d hids _ _ _).symm

theorem algebraic : Cert.algebraic_KernelIdeal_ReferenceIdeal (hPre_ids_in_range := Cert.Pre_ids_in_range.Gen.facts) := by
  intro m g m' g' hpre hagree
  have hids : ∀ d, IdsOk (idsIn m d) := fun d => idsOk_of_test _ _ _ _ (hpre d)
  refine ⟨fun c => W4 m c Cert.KernelIdeal.main_v19, (θ_run Cert.KernelIdeal.defs _ _).mono (fun _ h => h.1) (run_kernel (F := Ideal) m g hids), ?_⟩
  refine (θ_run Cert.ReferenceIdeal.defs _ _).mono (fun _ h c => ⟨(h c).1.trans ?_, (h c).2⟩) (Cert.ReferenceIdeal.Value.run (F := Ideal) m' g')
  obtain ⟨e0, e1, e2, e3⟩ := hagree c
  rw [Cert.ReferenceIdeal.Read.val_main_v11_eq, e0, e1, e2, e3]
  exact results_eq m c (hids c)

end Cert.Proof.Modulate

end
-- ==== Proof.lean ====
/-
  The proof of `Cert.Claim`: the frames of the kernel, of its idealized print and of the reference; that the idealized
  print replaces nothing; and that the kernel's result is the reference's over the extended reals. Each is proved in a
  module of its own and only gathered here.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_ids_in_range
public import proofs.«01_k».proof.Proof.Frames
public import proofs.«01_k».proof.Proof.Ref
public import proofs.«01_k».proof.Proof.Algebra
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_ids_in_range.Gen.facts,
  Modulate.frame_kernel, Modulate.frame_kernelIdeal, Modulate.frame_reference, trivial, Modulate.algebraic⟩

end Cert.Proof

end
